-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S4096x2048 : Shape := ⟨2, ![4096, 2048]⟩
abbrev S1 : Shape := ⟨1, ![1]⟩
abbrev S256x2048 : Shape := ⟨2, ![256, 2048]⟩
abbrev S16x256x256 : Shape := ⟨3, ![16, 256, 256]⟩
abbrev S16x256x2048 : Shape := ⟨3, ![16, 256, 2048]⟩
abbrev S16 : Shape := ⟨1, ![16]⟩
abbrev S_ : Shape := ⟨0, ![]⟩
abbrev S1x256x2048 : Shape := ⟨3, ![1, 256, 2048]⟩
abbrev S256x256 : Shape := ⟨2, ![256, 256]⟩
abbrev S1x256x256 : Shape := ⟨3, ![1, 256, 256]⟩

abbrev nBuf : Space → Nat
  | .hbm => 5
  | .vmem => 6
  | .smem => 2
  | _ => 0

abbrev bufTy : (tb : Table) → Fin (tcTables nBuf tb) → BufTy
  | .hbm, ⟨0, _⟩ => ⟨S4096x256, .fp8e4m3⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S256x2048, .f32⟩
  | .local _ .vmem, ⟨0, _⟩ => ⟨S4096x256, .fp8e4m3⟩
  | .local _ .vmem, ⟨1, _⟩ => ⟨S256x2048, .f32⟩
  | .local _ .vmem, ⟨2, _⟩ => ⟨S16x256x256, .fp8e4m3⟩
  | .local _ .vmem, ⟨3, _⟩ => ⟨S16x256x256, .fp8e4m3⟩
  | .local _ .vmem, ⟨4, _⟩ => ⟨S16x256x2048, .f32⟩
  | .local _ .vmem, ⟨5, _⟩ => ⟨S16x256x2048, .fp8e5m2⟩
  | .local _ .smem, ⟨0, _⟩ => ⟨S1, .f32⟩
  | .local _ .smem, ⟨1, _⟩ => ⟨S1, .f32⟩
  | _, _ => ⟨S4096x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => false
  | _ => false

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  (ofTc nBuf bufTy 17 52 bufScoped semScoped dmaSemScoped tileCredit tileCredit_eq_zero tileCredit_pos).withBarriers [(0, 16)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 16

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5 : BitVec 32 := 1#32
  let v8 : BitVec 32 := Scalar.muli v5 c1_i32_5
  let v9 : BitVec 32 := Scalar.addi c0_i32 v8
  v9.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v10 : BitVec 32 := Scalar.subi v2 c15_i32
  let c16_i32_6 : BitVec 32 := 16#32
  let v11 : BitVec 32 := Scalar.addi v10 c16_i32_6
  let c16_i32_7 : BitVec 32 := 16#32
  let v12 : BitVec 32 := Scalar.remsi v11 c16_i32_7
  let c1_i32_10 : BitVec 32 := 1#32
  let v15 : BitVec 32 := Scalar.muli v12 c1_i32_10
  let v16 : BitVec 32 := Scalar.addi c0_i32_11 v15
  v16.toNat
def k0_dev3 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.subi v2 c2_i32
  let c16_i32_12 : BitVec 32 := 16#32
  let v18 : BitVec 32 := Scalar.addi v17 c16_i32_12
  let c16_i32_13 : BitVec 32 := 16#32
  let v19 : BitVec 32 := Scalar.remsi v18 c16_i32_13
  let c1_i32_16 : BitVec 32 := 1#32
  let v22 : BitVec 32 := Scalar.muli v19 c1_i32_16
  let v23 : BitVec 32 := Scalar.addi c0_i32_17 v22
  v23.toNat
def k0_dev4 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v24 : BitVec 32 := Scalar.subi v2 c14_i32
  let c16_i32_18 : BitVec 32 := 16#32
  let v25 : BitVec 32 := Scalar.addi v24 c16_i32_18
  let c16_i32_19 : BitVec 32 := 16#32
  let v26 : BitVec 32 := Scalar.remsi v25 c16_i32_19
  let c1_i32_22 : BitVec 32 := 1#32
  let v29 : BitVec 32 := Scalar.muli v26 c1_i32_22
  let v30 : BitVec 32 := Scalar.addi c0_i32_23 v29
  v30.toNat
def k0_dev5 (d0 : Dev nD) : Nat :=
  let c0_i32_29 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v31 : BitVec 32 := Scalar.subi v2 c3_i32
  let c16_i32_24 : BitVec 32 := 16#32
  let v32 : BitVec 32 := Scalar.addi v31 c16_i32_24
  let c16_i32_25 : BitVec 32 := 16#32
  let v33 : BitVec 32 := Scalar.remsi v32 c16_i32_25
  let c1_i32_28 : BitVec 32 := 1#32
  let v36 : BitVec 32 := Scalar.muli v33 c1_i32_28
  let v37 : BitVec 32 := Scalar.addi c0_i32_29 v36
  v37.toNat
def k0_dev6 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v38 : BitVec 32 := Scalar.subi v2 c13_i32
  let c16_i32_30 : BitVec 32 := 16#32
  let v39 : BitVec 32 := Scalar.addi v38 c16_i32_30
  let c16_i32_31 : BitVec 32 := 16#32
  let v40 : BitVec 32 := Scalar.remsi v39 c16_i32_31
  let c1_i32_34 : BitVec 32 := 1#32
  let v43 : BitVec 32 := Scalar.muli v40 c1_i32_34
  let v44 : BitVec 32 := Scalar.addi c0_i32_35 v43
  v44.toNat
def k0_dev7 (d0 : Dev nD) : Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v45 : BitVec 32 := Scalar.subi v2 c4_i32
  let c16_i32_36 : BitVec 32 := 16#32
  let v46 : BitVec 32 := Scalar.addi v45 c16_i32_36
  let c16_i32_37 : BitVec 32 := 16#32
  let v47 : BitVec 32 := Scalar.remsi v46 c16_i32_37
  let c1_i32_40 : BitVec 32 := 1#32
  let v50 : BitVec 32 := Scalar.muli v47 c1_i32_40
  let v51 : BitVec 32 := Scalar.addi c0_i32_41 v50
  v51.toNat
def k0_dev8 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v52 : BitVec 32 := Scalar.subi v2 c12_i32
  let c16_i32_42 : BitVec 32 := 16#32
  let v53 : BitVec 32 := Scalar.addi v52 c16_i32_42
  let c16_i32_43 : BitVec 32 := 16#32
  let v54 : BitVec 32 := Scalar.remsi v53 c16_i32_43
  let c1_i32_46 : BitVec 32 := 1#32
  let v57 : BitVec 32 := Scalar.muli v54 c1_i32_46
  let v58 : BitVec 32 := Scalar.addi c0_i32_47 v57
  v58.toNat
def k0_dev9 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v59 : BitVec 32 := Scalar.subi v2 c5_i32
  let c16_i32_48 : BitVec 32 := 16#32
  let v60 : BitVec 32 := Scalar.addi v59 c16_i32_48
  let c16_i32_49 : BitVec 32 := 16#32
  let v61 : BitVec 32 := Scalar.remsi v60 c16_i32_49
  let c1_i32_52 : BitVec 32 := 1#32
  let v64 : BitVec 32 := Scalar.muli v61 c1_i32_52
  let v65 : BitVec 32 := Scalar.addi c0_i32_53 v64
  v65.toNat
def k0_dev10 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v66 : BitVec 32 := Scalar.subi v2 c11_i32
  let c16_i32_54 : BitVec 32 := 16#32
  let v67 : BitVec 32 := Scalar.addi v66 c16_i32_54
  let c16_i32_55 : BitVec 32 := 16#32
  let v68 : BitVec 32 := Scalar.remsi v67 c16_i32_55
  let c1_i32_58 : BitVec 32 := 1#32
  let v71 : BitVec 32 := Scalar.muli v68 c1_i32_58
  let v72 : BitVec 32 := Scalar.addi c0_i32_59 v71
  v72.toNat
def k0_dev11 (d0 : Dev nD) : Nat :=
  let c0_i32_65 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v73 : BitVec 32 := Scalar.subi v2 c6_i32
  let c16_i32_60 : BitVec 32 := 16#32
  let v74 : BitVec 32 := Scalar.addi v73 c16_i32_60
  let c16_i32_61 : BitVec 32 := 16#32
  let v75 : BitVec 32 := Scalar.remsi v74 c16_i32_61
  let c1_i32_64 : BitVec 32 := 1#32
  let v78 : BitVec 32 := Scalar.muli v75 c1_i32_64
  let v79 : BitVec 32 := Scalar.addi c0_i32_65 v78
  v79.toNat
def k0_dev12 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v80 : BitVec 32 := Scalar.subi v2 c10_i32
  let c16_i32_66 : BitVec 32 := 16#32
  let v81 : BitVec 32 := Scalar.addi v80 c16_i32_66
  let c16_i32_67 : BitVec 32 := 16#32
  let v82 : BitVec 32 := Scalar.remsi v81 c16_i32_67
  let c1_i32_70 : BitVec 32 := 1#32
  let v85 : BitVec 32 := Scalar.muli v82 c1_i32_70
  let v86 : BitVec 32 := Scalar.addi c0_i32_71 v85
  v86.toNat
def k0_dev13 (d0 : Dev nD) : Nat :=
  let c0_i32_77 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v87 : BitVec 32 := Scalar.subi v2 c7_i32
  let c16_i32_72 : BitVec 32 := 16#32
  let v88 : BitVec 32 := Scalar.addi v87 c16_i32_72
  let c16_i32_73 : BitVec 32 := 16#32
  let v89 : BitVec 32 := Scalar.remsi v88 c16_i32_73
  let c1_i32_76 : BitVec 32 := 1#32
  let v92 : BitVec 32 := Scalar.muli v89 c1_i32_76
  let v93 : BitVec 32 := Scalar.addi c0_i32_77 v92
  v93.toNat
def k0_dev14 (d0 : Dev nD) : Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v94 : BitVec 32 := Scalar.subi v2 c9_i32
  let c16_i32_78 : BitVec 32 := 16#32
  let v95 : BitVec 32 := Scalar.addi v94 c16_i32_78
  let c16_i32_79 : BitVec 32 := 16#32
  let v96 : BitVec 32 := Scalar.remsi v95 c16_i32_79
  let c1_i32_82 : BitVec 32 := 1#32
  let v99 : BitVec 32 := Scalar.muli v96 c1_i32_82
  let v100 : BitVec 32 := Scalar.addi c0_i32_83 v99
  v100.toNat
def k0_dev15 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v101 : BitVec 32 := Scalar.subi v2 c8_i32
  let c16_i32_84 : BitVec 32 := 16#32
  let v102 : BitVec 32 := Scalar.addi v101 c16_i32_84
  let c16_i32_85 : BitVec 32 := 16#32
  let v103 : BitVec 32 := Scalar.remsi v102 c16_i32_85
  let c1_i32_88 : BitVec 32 := 1#32
  let v106 : BitVec 32 := Scalar.muli v103 c1_i32_88
  let v107 : BitVec 32 := Scalar.addi c0_i32_89 v106
  v107.toNat
def k0_off1 (d0 : Dev nD) (c0_i32_90 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v108 : BitVec 32 := Scalar.subi v2 c0_i32_90
  let c16_i32_91 : BitVec 32 := 16#32
  let v109 : BitVec 32 := Scalar.addi v108 c16_i32_91
  let c16_i32_92 : BitVec 32 := 16#32
  let v110 : BitVec 32 := Scalar.remsi v109 c16_i32_92
  let c256_i32 : BitVec 32 := 256#32
  let v111 : BitVec 32 := Scalar.muli v110 c256_i32
  let c0_i32_97 : BitVec 32 := 0#32
  ![v111.toNat, 0]
def k0_dev16 (d0 : Dev nD) : Nat :=
  let c0_i32_240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_233 : BitVec 32 := 1#32
  let v253 : BitVec 32 := Scalar.addi v2 c1_i32_233
  let c16_i32_234 : BitVec 32 := 16#32
  let v254 : BitVec 32 := Scalar.remsi v253 c16_i32_234
  let c1_i32_239 : BitVec 32 := 1#32
  let v258 : BitVec 32 := Scalar.muli v254 c1_i32_239
  let v259 : BitVec 32 := Scalar.addi c0_i32_240 v258
  v259.toNat
def k0_dev17 (d0 : Dev nD) : Nat :=
  let c0_i32_243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_235 : BitVec 32 := 1#32
  let v255 : BitVec 32 := Scalar.subi v2 c1_i32_235
  let c16_i32_236 : BitVec 32 := 16#32
  let v256 : BitVec 32 := Scalar.addi v255 c16_i32_236
  let c16_i32_237 : BitVec 32 := 16#32
  let v257 : BitVec 32 := Scalar.remsi v256 c16_i32_237
  let c1_i32_242 : BitVec 32 := 1#32
  let v260 : BitVec 32 := Scalar.muli v257 c1_i32_242
  let v261 : BitVec 32 := Scalar.addi c0_i32_243 v260
  v261.toNat
def k0_off2 (d0 : Dev nD) (c1_i32_245 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v262 : BitVec 32 := Scalar.addi v2 c1_i32_245
  let c16_i32_246 : BitVec 32 := 16#32
  let v263 : BitVec 32 := Scalar.remsi v262 c16_i32_246
  let c256_i32_247 : BitVec 32 := 256#32
  let v264 : BitVec 32 := Scalar.muli v263 c256_i32_247
  let v265 : Index := Scalar.indexCast v264
  let c0 : Index := 0#32
  ![v265.toNat, 0]
def k0_off3 (d0 : Dev nD) (c1_i32_245 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v262 : BitVec 32 := Scalar.addi v2 c1_i32_245
  let c16_i32_246 : BitVec 32 := 16#32
  let v263 : BitVec 32 := Scalar.remsi v262 c16_i32_246
  let v268 : Index := Scalar.indexCast v263
  let c0_248 : Index := 0#32
  let c0_249 : Index := 0#32
  ![v268.toNat, 0, 0]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_257 : BitVec 32 := 0#32
  let c0_i32_258 : BitVec 32 := 0#32
  ![v2.toNat, 0, 0]
def k0_off5 (d0 : Dev nD) (c1_i32_245 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v262 : BitVec 32 := Scalar.addi v2 c1_i32_245
  let c16_i32_246 : BitVec 32 := 16#32
  let v263 : BitVec 32 := Scalar.remsi v262 c16_i32_246
  let c0_i32_259 : BitVec 32 := 0#32
  let c0_i32_260 : BitVec 32 := 0#32
  ![v263.toNat, 0, 0]
def k0_dev18 (d0 : Dev nD) : Nat :=
  let c0_i32_256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_245 : BitVec 32 := 1#32
  let v262 : BitVec 32 := Scalar.addi v2 c1_i32_245
  let c16_i32_246 : BitVec 32 := 16#32
  let v263 : BitVec 32 := Scalar.remsi v262 c16_i32_246
  let c1_i32_255 : BitVec 32 := 1#32
  let v274 : BitVec 32 := Scalar.muli v263 c1_i32_255
  let v275 : BitVec 32 := Scalar.addi c0_i32_256 v274
  v275.toNat
def k0_dev19 (d0 : Dev nD) : Nat :=
  let c0_i32_273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_261 : BitVec 32 := 15#32
  let v284 : BitVec 32 := Scalar.addi v2 c15_i32_261
  let c16_i32_262 : BitVec 32 := 16#32
  let v285 : BitVec 32 := Scalar.remsi v284 c16_i32_262
  let c1_i32_272 : BitVec 32 := 1#32
  let v296 : BitVec 32 := Scalar.muli v285 c1_i32_272
  let v297 : BitVec 32 := Scalar.addi c0_i32_273 v296
  v297.toNat
def k0_dev20 (d0 : Dev nD) : Nat :=
  let c0_i32_290 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_278 : BitVec 32 := 2#32
  let v306 : BitVec 32 := Scalar.addi v2 c2_i32_278
  let c16_i32_279 : BitVec 32 := 16#32
  let v307 : BitVec 32 := Scalar.remsi v306 c16_i32_279
  let c1_i32_289 : BitVec 32 := 1#32
  let v318 : BitVec 32 := Scalar.muli v307 c1_i32_289
  let v319 : BitVec 32 := Scalar.addi c0_i32_290 v318
  v319.toNat
def k0_dev21 (d0 : Dev nD) : Nat :=
  let c0_i32_307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_295 : BitVec 32 := 14#32
  let v328 : BitVec 32 := Scalar.addi v2 c14_i32_295
  let c16_i32_296 : BitVec 32 := 16#32
  let v329 : BitVec 32 := Scalar.remsi v328 c16_i32_296
  let c1_i32_306 : BitVec 32 := 1#32
  let v340 : BitVec 32 := Scalar.muli v329 c1_i32_306
  let v341 : BitVec 32 := Scalar.addi c0_i32_307 v340
  v341.toNat
def k0_dev22 (d0 : Dev nD) : Nat :=
  let c0_i32_324 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_312 : BitVec 32 := 3#32
  let v350 : BitVec 32 := Scalar.addi v2 c3_i32_312
  let c16_i32_313 : BitVec 32 := 16#32
  let v351 : BitVec 32 := Scalar.remsi v350 c16_i32_313
  let c1_i32_323 : BitVec 32 := 1#32
  let v362 : BitVec 32 := Scalar.muli v351 c1_i32_323
  let v363 : BitVec 32 := Scalar.addi c0_i32_324 v362
  v363.toNat
def k0_dev23 (d0 : Dev nD) : Nat :=
  let c0_i32_341 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_329 : BitVec 32 := 13#32
  let v372 : BitVec 32 := Scalar.addi v2 c13_i32_329
  let c16_i32_330 : BitVec 32 := 16#32
  let v373 : BitVec 32 := Scalar.remsi v372 c16_i32_330
  let c1_i32_340 : BitVec 32 := 1#32
  let v384 : BitVec 32 := Scalar.muli v373 c1_i32_340
  let v385 : BitVec 32 := Scalar.addi c0_i32_341 v384
  v385.toNat
def k0_dev24 (d0 : Dev nD) : Nat :=
  let c0_i32_358 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_346 : BitVec 32 := 4#32
  let v394 : BitVec 32 := Scalar.addi v2 c4_i32_346
  let c16_i32_347 : BitVec 32 := 16#32
  let v395 : BitVec 32 := Scalar.remsi v394 c16_i32_347
  let c1_i32_357 : BitVec 32 := 1#32
  let v406 : BitVec 32 := Scalar.muli v395 c1_i32_357
  let v407 : BitVec 32 := Scalar.addi c0_i32_358 v406
  v407.toNat
def k0_dev25 (d0 : Dev nD) : Nat :=
  let c0_i32_375 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_363 : BitVec 32 := 12#32
  let v416 : BitVec 32 := Scalar.addi v2 c12_i32_363
  let c16_i32_364 : BitVec 32 := 16#32
  let v417 : BitVec 32 := Scalar.remsi v416 c16_i32_364
  let c1_i32_374 : BitVec 32 := 1#32
  let v428 : BitVec 32 := Scalar.muli v417 c1_i32_374
  let v429 : BitVec 32 := Scalar.addi c0_i32_375 v428
  v429.toNat
def k0_dev26 (d0 : Dev nD) : Nat :=
  let c0_i32_392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_380 : BitVec 32 := 5#32
  let v438 : BitVec 32 := Scalar.addi v2 c5_i32_380
  let c16_i32_381 : BitVec 32 := 16#32
  let v439 : BitVec 32 := Scalar.remsi v438 c16_i32_381
  let c1_i32_391 : BitVec 32 := 1#32
  let v450 : BitVec 32 := Scalar.muli v439 c1_i32_391
  let v451 : BitVec 32 := Scalar.addi c0_i32_392 v450
  v451.toNat
def k0_dev27 (d0 : Dev nD) : Nat :=
  let c0_i32_409 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_397 : BitVec 32 := 11#32
  let v460 : BitVec 32 := Scalar.addi v2 c11_i32_397
  let c16_i32_398 : BitVec 32 := 16#32
  let v461 : BitVec 32 := Scalar.remsi v460 c16_i32_398
  let c1_i32_408 : BitVec 32 := 1#32
  let v472 : BitVec 32 := Scalar.muli v461 c1_i32_408
  let v473 : BitVec 32 := Scalar.addi c0_i32_409 v472
  v473.toNat
def k0_dev28 (d0 : Dev nD) : Nat :=
  let c0_i32_426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_414 : BitVec 32 := 6#32
  let v482 : BitVec 32 := Scalar.addi v2 c6_i32_414
  let c16_i32_415 : BitVec 32 := 16#32
  let v483 : BitVec 32 := Scalar.remsi v482 c16_i32_415
  let c1_i32_425 : BitVec 32 := 1#32
  let v494 : BitVec 32 := Scalar.muli v483 c1_i32_425
  let v495 : BitVec 32 := Scalar.addi c0_i32_426 v494
  v495.toNat
def k0_dev29 (d0 : Dev nD) : Nat :=
  let c0_i32_443 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_431 : BitVec 32 := 10#32
  let v504 : BitVec 32 := Scalar.addi v2 c10_i32_431
  let c16_i32_432 : BitVec 32 := 16#32
  let v505 : BitVec 32 := Scalar.remsi v504 c16_i32_432
  let c1_i32_442 : BitVec 32 := 1#32
  let v516 : BitVec 32 := Scalar.muli v505 c1_i32_442
  let v517 : BitVec 32 := Scalar.addi c0_i32_443 v516
  v517.toNat
def k0_dev30 (d0 : Dev nD) : Nat :=
  let c0_i32_460 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_448 : BitVec 32 := 7#32
  let v526 : BitVec 32 := Scalar.addi v2 c7_i32_448
  let c16_i32_449 : BitVec 32 := 16#32
  let v527 : BitVec 32 := Scalar.remsi v526 c16_i32_449
  let c1_i32_459 : BitVec 32 := 1#32
  let v538 : BitVec 32 := Scalar.muli v527 c1_i32_459
  let v539 : BitVec 32 := Scalar.addi c0_i32_460 v538
  v539.toNat
def k0_dev31 (d0 : Dev nD) : Nat :=
  let c0_i32_477 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_465 : BitVec 32 := 9#32
  let v548 : BitVec 32 := Scalar.addi v2 c9_i32_465
  let c16_i32_466 : BitVec 32 := 16#32
  let v549 : BitVec 32 := Scalar.remsi v548 c16_i32_466
  let c1_i32_476 : BitVec 32 := 1#32
  let v560 : BitVec 32 := Scalar.muli v549 c1_i32_476
  let v561 : BitVec 32 := Scalar.addi c0_i32_477 v560
  v561.toNat
def k0_dev32 (d0 : Dev nD) : Nat :=
  let c0_i32_494 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_482 : BitVec 32 := 8#32
  let v570 : BitVec 32 := Scalar.addi v2 c8_i32_482
  let c16_i32_483 : BitVec 32 := 16#32
  let v571 : BitVec 32 := Scalar.remsi v570 c16_i32_483
  let c1_i32_493 : BitVec 32 := 1#32
  let v582 : BitVec 32 := Scalar.muli v571 c1_i32_493
  let v583 : BitVec 32 := Scalar.addi c0_i32_494 v582
  v583.toNat
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_499 : BitVec 32 := 256#32
  let v592 : BitVec 32 := Scalar.muli v2 c256_i32_499
  let v593 : Index := Scalar.indexCast v592
  let c0_500 : Index := 0#32
  ![v593.toNat, 0]
def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v596 : Index := Scalar.indexCast v2
  let c0_501 : Index := 0#32
  let c0_502 : Index := 0#32
  ![v596.toNat, 0, 0]
def k0_off8 (d0 : Dev nD) (c0_i32_728 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v840 : BitVec 32 := Scalar.subi v2 c0_i32_728
  let c16_i32_729 : BitVec 32 := 16#32
  let v841 : BitVec 32 := Scalar.addi v840 c16_i32_729
  let c16_i32_730 : BitVec 32 := 16#32
  let v842 : BitVec 32 := Scalar.remsi v841 c16_i32_730
  let v843 : Index := Scalar.indexCast v842
  let c0_731 : Index := 0#32
  let c0_732 : Index := 0#32
  ![v843.toNat, 0, 0]
def k0_off9 (d0 : Dev nD) (c1_i32_736 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v849 : BitVec 32 := Scalar.subi v2 c1_i32_736
  let c16_i32_737 : BitVec 32 := 16#32
  let v850 : BitVec 32 := Scalar.addi v849 c16_i32_737
  let c16_i32_738 : BitVec 32 := 16#32
  let v851 : BitVec 32 := Scalar.remsi v850 c16_i32_738
  let c0_i32_743 : BitVec 32 := 0#32
  let c0_i32_744 : BitVec 32 := 0#32
  ![v851.toNat, 0, 0]
abbrev stage0_0 : Fin 1 → Memref sig .tc .vmem S4096x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .f32⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Loops.lean ====
module

public import proofs.«01_k».proof.Proof.Gen.KernelIdeal.Launch
public import Idealize.ShloMosaic.Lib.Tactic

@[expose] public section

noncomputable section

namespace Cert.Proof

open Idealize.ShloMosaic Idealize.ShloMosaic.TcCoe
open Idealize.SL Idealize.SL.Sem
open Cert.KernelIdeal Cert.KernelIdeal.Gen

variable {F : FTy → Type} [FloatOps F]

/-! The kernel body written as loops over the step lists, and that the printed body is this program.
    An OFFSET is a number `1 … 15`, indexed here by `r : Fin 15` as `r + 1`. -/

/-- The programs of the body. -/
abbrev Pr (F : FTy → Type) [FloatOps F] := Prog (TpuEff nD τ sig (Elt F) Λ₀ .tc) PUnit

/-! ## The buffers -/

abbrev mX : Memref sig .tc .vmem S4096x256 .fp8e4m3 := Memref.whole cc0_stg0_0
abbrev mW : Memref sig .tc .hbm S4096x2048 .f32 := Memref.whole main_arg1
abbrev mSx : Memref sig .tc .smem S1 .f32 := Memref.whole cc0_stg1_0
abbrev mSw : Memref sig .tc .smem S1 .f32 := Memref.whole cc0_stg2_0
abbrev mO : Memref sig .tc .vmem S256x2048 .f32 := Memref.whole cc0_stg3_0
abbrev mSend : Memref sig .tc .vmem S16x256x256 .fp8e4m3 := Memref.whole cc0_scratch0
abbrev mGot : Memref sig .tc .vmem S16x256x256 .fp8e4m3 := Memref.whole cc0_scratch1
abbrev mWb : Memref sig .tc .vmem S16x256x2048 .f32 := Memref.whole cc0_scratch2
abbrev mWe : Memref sig .tc .vmem S16x256x2048 .fp8e5m2 := Memref.whole cc0_scratch3

/-! ## The semaphores -/

/-- The ready semaphore of offset `o`. -/
abbrev rdyS (o : Fin 16) : Sem sig := ⟨o.val, show o.val < 17 from Nat.lt_trans o.isLt (by decide)⟩
/-- The send, receive and weight-copy semaphores. -/
abbrev sndS (o : Fin 16) : DmaSem sig := ⟨4 + o.val, show 4 + o.val < 52 from by have := o.isLt; omega⟩
abbrev rcvS (o : Fin 16) : DmaSem sig := ⟨20 + o.val, show 20 + o.val < 52 from by have := o.isLt; omega⟩
abbrev wdmS (t : Fin 16) : DmaSem sig := ⟨36 + t.val, show 36 + t.val < 52 from by have := t.isLt; omega⟩
/-- The barrier semaphore. -/
abbrev barS : Sem sig := barrier0

/-! ## The orders -/

/-- The order in which the offsets are taken by the signals, the sends and the last waits. -/
def offs : List (Fin 15) := [0, 14, 1, 13, 2, 12, 3, 11, 4, 10, 5, 9, 6, 8, 7]

/-- The offset (0 for the own block) of step `t`. -/
def po : Fin 16 → Fin 16 := ![0, 1, 15, 2, 14, 3, 13, 4, 12, 5, 11, 6, 10, 7, 9, 8]

/-- The steps. -/
def steps : List (Fin 16) := [0, 1, 2, 3, 4, 5, 6, 7, 8, 9, 10, 11, 12, 13, 14, 15]

/-- The steps that wait for a block from another device, with their offsets. -/
def rsteps : List (Fin 16 × Fin 15) :=
  [(1, 0), (2, 14), (3, 1), (4, 13), (5, 2), (6, 12), (7, 3), (8, 11), (9, 4), (10, 10), (11, 5), (12, 9), (13, 6), (14, 8), (15, 7)]

/-- The device told that this one is ready to be sent to, by offset: `d - (r + 1)`. -/
def sigDev (d : Dev nD) : Fin 15 → Dev nD :=
  ![⟨k0_dev1 d, k0_dev1_lt d⟩, ⟨k0_dev3 d, k0_dev3_lt d⟩, ⟨k0_dev5 d, k0_dev5_lt d⟩, ⟨k0_dev7 d, k0_dev7_lt d⟩,
    ⟨k0_dev9 d, k0_dev9_lt d⟩, ⟨k0_dev11 d, k0_dev11_lt d⟩, ⟨k0_dev13 d, k0_dev13_lt d⟩, ⟨k0_dev15 d, k0_dev15_lt d⟩,
    ⟨k0_dev14 d, k0_dev14_lt d⟩, ⟨k0_dev12 d, k0_dev12_lt d⟩, ⟨k0_dev10 d, k0_dev10_lt d⟩, ⟨k0_dev8 d, k0_dev8_lt d⟩,
    ⟨k0_dev6 d, k0_dev6_lt d⟩, ⟨k0_dev4 d, k0_dev4_lt d⟩, ⟨k0_dev2 d, k0_dev2_lt d⟩]

/-- The device sent to, by offset: `d + (r + 1)`. -/
def dstDev (d : Dev nD) : Fin 15 → Dev nD :=
  ![⟨k0_dev18 d, k0_dev18_lt d⟩, ⟨k0_dev20 d, k0_dev20_lt d⟩, ⟨k0_dev22 d, k0_dev22_lt d⟩, ⟨k0_dev24 d, k0_dev24_lt d⟩,
    ⟨k0_dev26 d, k0_dev26_lt d⟩, ⟨k0_dev28 d, k0_dev28_lt d⟩, ⟨k0_dev30 d, k0_dev30_lt d⟩, ⟨k0_dev32 d, k0_dev32_lt d⟩,
    ⟨k0_dev31 d, k0_dev31_lt d⟩, ⟨k0_dev29 d, k0_dev29_lt d⟩, ⟨k0_dev27 d, k0_dev27_lt d⟩, ⟨k0_dev25 d, k0_dev25_lt d⟩,
    ⟨k0_dev23 d, k0_dev23_lt d⟩, ⟨k0_dev21 d, k0_dev21_lt d⟩, ⟨k0_dev19 d, k0_dev19_lt d⟩]

/-! ## The rectangles -/

abbrev rX (d : Dev nD) (r : Fin 15) : Rect S4096x256 :=
  Rect.unit (s := S4096x256) (k0_off2 d (BitVec.ofNat 32 (1 + r.val))) S256x256.size (k0_off2_inb d r)
abbrev rXown (d : Dev nD) : Rect S4096x256 := Rect.unit (s := S4096x256) (k0_off6 d) S256x256.size (k0_off6_inb d)
abbrev rSend (d : Dev nD) (r : Fin 15) : Rect S16x256x256 :=
  Rect.unit (s := S16x256x256) (k0_off3 d (BitVec.ofNat 32 (1 + r.val))) S1x256x256.size (k0_off3_inb d r)
abbrev rGotOwn (d : Dev nD) : Rect S16x256x256 := Rect.unit (s := S16x256x256) (k0_off7 d) S1x256x256.size (k0_off7_inb d)
abbrev rGot (d : Dev nD) (o : Fin 16) : Rect S16x256x256 :=
  Rect.unit (s := S16x256x256) (k0_off8 d (BitVec.ofNat 32 o.val)) S1x256x256.size (k0_off8_inb d o)

theorem slot_inb (t : Fin 16) : ∀ a, (![t.val, 0, 0] : Fin 3 → Nat) a + S1x256x2048.size a ≤ S16x256x2048.size a := by
  revert t; decide

theorem slot_packed (t : Fin 16) :
    (Rect.unit (s := S16x256x2048) ![t.val, 0, 0] S1x256x2048.size (slot_inb t)).PackedRows (EltTy.packing .fp8e5m2) := by
  revert t; decide +kernel

abbrev rSlot (t : Fin 16) : Rect S16x256x2048 := Rect.unit (s := S16x256x2048) ![t.val, 0, 0] S1x256x2048.size (slot_inb t)

/-! ## The views the copies move -/

/-- The rows of the weights that step `t` uses, and the slot they are copied to. -/
abbrev wSrc (d : Dev nD) (t : Fin 16) : Memref sig .tc .hbm S256x2048 .f32 :=
  mW.slice (Rect.unit (s := S4096x2048) (k0_off1 d (BitVec.ofNat 32 (po t).val)) S256x2048.size (k0_off1_inb d (po t))) (fun _ => rfl)
abbrev wDst (t : Fin 16) : Memref sig .tc .vmem S256x2048 .f32 :=
  (mWb.slice (rSlot t) (fun _ => rfl)).squeeze S256x2048 squeezes_S1x256x2048_S256x2048
/-- The slot sent at offset `r + 1`, the slot it lands in on the other device, and the slot landed in here. -/
abbrev xSrc (d : Dev nD) (r : Fin 15) : Memref sig .tc .vmem S256x256 .fp8e4m3 :=
  (mSend.slice (Rect.unit (s := S16x256x256) (k0_off5 d (BitVec.ofNat 32 (1 + r.val))) S1x256x256.size (k0_off5_inb d r)) (fun _ => rfl)).squeeze S256x256
    squeezes_S1x256x256_S256x256
abbrev xDst (d : Dev nD) : Memref sig .tc .vmem S256x256 .fp8e4m3 :=
  (mGot.slice (Rect.unit (s := S16x256x256) (k0_off4 d) S1x256x256.size (k0_off4_inb d)) (fun _ => rfl)).squeeze S256x256
    squeezes_S1x256x256_S256x256
abbrev xGot (d : Dev nD) (r : Fin 15) : Memref sig .tc .vmem S256x256 .fp8e4m3 :=
  (mGot.slice (Rect.unit (s := S16x256x256) (k0_off9 d (BitVec.ofNat 32 (1 + r.val))) S1x256x256.size (k0_off9_inb d r)) (fun _ => rfl)).squeeze S256x256
    squeezes_S1x256x256_S256x256

/-! ## The arithmetic of a step -/

/-- A 256×256 block with a leading dimension of one added. -/
def lead (v : Vec F S256x256 .fp8e4m3) : FVec F S1x256x256 .fp8e4m3 :=
  shapeCast S1x256x256 (shapeCast S256x256 v shapeCasts_S256x256_S256x256) shapeCasts_S256x256_S1x256x256

/-- A slot of the weights narrowed to the eight-bit type. -/
def narrow (v : Vec F S1x256x2048 .f32) : FVec F S1x256x2048 .fp8e5m2 :=
  shapeCast S1x256x2048 (truncf .fp8e5m2 (shapeCast S256x2048 v shapeCasts_S1x256x2048_S256x2048) bitsLt_fp8e5m2_f32) shapeCasts_S256x2048_S1x256x2048

/-- The product of a block and a slot of weights. -/
def prod (a : Vec F S1x256x256 .fp8e4m3) (b : Vec F S1x256x2048 .fp8e5m2) : FVec F S256x2048 .f32 :=
  matmul dot_S256x256_S256x2048_S256x2048_1_0_0_1_n_n none (shapeCast S256x256 a shapeCasts_S1x256x256_S256x256)
    (shapeCast S256x2048 b shapeCasts_S1x256x2048_S256x2048) (constant S256x2048 .f32 0x00000000#32)

/-- The sum scaled by the product of the two scales. -/
def scaled (acc : FVec F S256x2048 .f32) (sx sw : Elt F .f32) : FVec F S256x2048 .f32 :=
  mulf acc (broadcast S256x2048 (Scalar.mulf sx sw))

/-! ## The loops -/

/-- Tell every device that may send here that its slot is free. -/
def sigs (d : Dev nD) : List (Fin 15) → Pr F → Pr F
  | [], k => k
  | r :: rs, k => .op (.semSignal ((sigDev d r : Dev nD), .tc) (rdyS r.succ) (BitVec.toInt 1#32)) fun _ => sigs d rs k

/-- Start copying the weights, slot by slot. -/
def starts (d : Dev nD) : List (Fin 16) → Pr F → Pr F
  | [], k => k
  | t :: ts, k => .op (.enqueueDma (wSrc d t) (.here (wDst t)) (.dma (wdmS t)) (View.wordExact_bits rfl) ((View.wordExact_bits rfl).reshape _ _) ⟨Or.inl rfl, trivial⟩)
      fun _ => starts d ts k

/-- Pack a block of `x` and send it, offset by offset. -/
def sends (d : Dev nD) : List (Fin 15) → Pr F → Pr F
  | [], k => k
  | r :: rs, k =>
    .op (.load mX (rX d r).toLoadRect (View.loadsAt_vmem h_S256x256)) fun v =>
    .op (.load mSend (rSend d r).toLoadRect (View.loadsAt_vmem h_S1x256x256)) fun _ =>
    .op (.store mSend (rSend d r) (lead v) Finset.univ
      (View.stores_vmem h_S1x256x256 ((Memref.isWhole_whole _).storeExact_slice rfl _ (k0_off3_packedfp8e4m3 d r)) (fun _ => rfl)) (.inl rfl)) fun _ =>
    .op (.semWait (rdyS r.succ) (BitVec.toInt 1#32)) fun _ =>
    .op (.enqueueDma (xSrc d r) (.remote (Dev.tc (dstDev d r)) (xDst d) (.dma (sndS r.succ))) (.dma (rcvS r.succ))
      (((Memref.isWhole_whole _).wordExact_slice rfl _ (k0_off5_wordsfp8e4m3 d r)).reshape _ _)
      (((Memref.isWhole_whole _).wordExact_slice rfl _ (k0_off4_wordsfp8e4m3 d)).reshape _ _) ⟨⟨rfl, Or.inl rfl⟩, trivial⟩) fun _ =>
    sends d rs k

/-- Wait for each slot of weights and narrow it. -/
def casts (d : Dev nD) : List (Fin 16) → Pr F → Pr F
  | [], k => k
  | t :: ts, k =>
    .op (.waitDma2 (wdmS t) (wSrc d t) (wDst t) (View.wordExact_bits rfl) ((View.wordExact_bits rfl).reshape _ _)) fun _ =>
    .op (.load mWb (rSlot t).toLoadRect (View.loadsAt_vmem h_S1x256x2048)) fun v =>
    .op (.load mWe (rSlot t).toLoadRect (View.loadsAt_vmem h_S1x256x2048)) fun _ =>
    .op (.store mWe (rSlot t) (narrow v) Finset.univ
      (View.stores_vmem h_S1x256x2048 ((Memref.isWhole_whole _).storeExact_slice rfl _ (slot_packed t)) (fun _ => rfl)) (.inl rfl)) fun _ =>
    casts d ts k

/-- Wait for each block and add its product with its weights. -/
def recvs (d : Dev nD) : List (Fin 16 × Fin 15) → FVec F S256x2048 .f32 → (FVec F S256x2048 .f32 → Pr F) → Pr F
  | [], acc, k => k acc
  | (t, r) :: ts, acc, k =>
    .op (.waitDma2 (rcvS r.succ) (xGot d r) (xGot d r)
      (((Memref.isWhole_whole _).wordExact_slice rfl _ (k0_off9_wordsfp8e4m3 d r)).reshape _ _)
      (((Memref.isWhole_whole _).wordExact_slice rfl _ (k0_off9_wordsfp8e4m3 d r)).reshape _ _)) fun _ =>
    .op (.load mGot (rGot d r.succ).toLoadRect (View.loadsAt_vmem h_S1x256x256)) fun a =>
    .op (.load mWe (rSlot t).toLoadRect (View.loadsAt_vmem h_S1x256x2048)) fun b =>
    recvs d ts (addf acc (prod a b)) k

/-- Wait until every send has left. -/
def lasts (d : Dev nD) : List (Fin 15) → Pr F → Pr F
  | [], k => k
  | r :: rs, k =>
    .op (.waitDma2 (sndS r.succ) (xDst d) (xSrc d r)
      (((Memref.isWhole_whole _).wordExact_slice rfl _ (k0_off4_wordsfp8e4m3 d)).reshape _ _)
      (((Memref.isWhole_whole _).wordExact_slice rfl _ (k0_off5_wordsfp8e4m3 d r)).reshape _ _)) fun _ =>
    lasts d rs k

/-! ## The body -/

/-- The barrier with the two neighbours. -/
def barrier (d : Dev nD) (k : Pr F) : Pr F :=
  .op (.semSignal ((⟨k0_dev16 d, k0_dev16_lt d⟩ : Dev nD), .tc) barS (BitVec.toInt 1#32)) fun _ =>
  .op (.semSignal ((⟨k0_dev17 d, k0_dev17_lt d⟩ : Dev nD), .tc) barS (BitVec.toInt 1#32)) fun _ =>
  .op (.semWait barS (BitVec.toInt 2#32)) fun _ => k

/-- The own block, packed straight into the receive buffer. -/
def own (d : Dev nD) (k : Pr F) : Pr F :=
  .op (.load mX (rXown d).toLoadRect (View.loadsAt_vmem h_S256x256)) fun v =>
  .op (.load mGot (rGotOwn d).toLoadRect (View.loadsAt_vmem h_S1x256x256)) fun _ =>
  .op (.store mGot (rGotOwn d) (lead v) Finset.univ
    (View.stores_vmem h_S1x256x256 ((Memref.isWhole_whole _).storeExact_slice rfl _ (k0_off7_packedfp8e4m3 d)) (fun _ => rfl)) (.inl rfl)) fun _ => k

/-- The product of the own block. -/
def first (d : Dev nD) (k : FVec F S256x2048 .f32 → Pr F) : Pr F :=
  .op (.load mGot (rGot d 0).toLoadRect (View.loadsAt_vmem h_S1x256x256)) fun a =>
  .op (.load mWe (rSlot 0).toLoadRect (View.loadsAt_vmem h_S1x256x2048)) fun b =>
  k (prod a b)

/-- Scale the sum and write it out. -/
def write (acc : FVec F S256x2048 .f32) (k : Pr F) : Pr F :=
  smemLoad mSx (Rect.unit (s := S1) ![0] S1.size inb_S1_S1_0) numel1_S1 rfl >>= fun sx =>
  smemLoad mSw (Rect.unit (s := S1) ![0] S1.size inb_S1_S1_0) numel1_S1 rfl >>= fun sw =>
  .op (.load mO (Rect.unit (s := S256x2048) ![0, 0] S256x2048.size inb_S256x2048_S256x2048_0_0).toLoadRect (View.loadsAt_vmem h_S256x2048)) fun _ =>
  .op (.store mO (Rect.unit (s := S256x2048) ![0, 0] S256x2048.size inb_S256x2048_S256x2048_0_0) (scaled acc sx sw) Finset.univ
    (View.stores_vmem_bits_univ h_S256x2048 rfl) (.inl rfl)) fun _ => k

/-- The body as loops. -/
def prog : Pr F :=
  .op .deviceId fun d =>
  sigs d offs <| starts d steps <| barrier d <| sends d offs <| own d <| casts d steps <|
  first d fun acc => recvs d rsteps acc fun acc => write acc <| lasts d offs (.ret ⟨⟩)

/-- The printed body is the loops. -/
theorem body_eq : cc0_body (F := F) mX (Memref.isWhole_whole _) mW (Memref.isWhole_whole _) mSx (Memref.isWhole_whole _) mSw (Memref.isWhole_whole _)
    mO (Memref.isWhole_whole _) mSend (Memref.isWhole_whole _) mGot (Memref.isWhole_whole _) mWb (Memref.isWhole_whole _) mWe (Memref.isWhole_whole _)
    cc0_scratch4 cc0_scratch5 cc0_scratch6 cc0_scratch7 = prog := by
  chain_rfl

end Cert.Proof
-- ==== Proof.Slots.lean ====
module

public import proofs.«01_k».proof.Proof.Loops
public import Idealize.ShloMosaic.Lib.Pipeline.Value

@[expose] public section

noncomputable section

namespace Cert.Proof

open Idealize.ShloMosaic Idealize.ShloMosaic.TcCoe
open Idealize.SL Idealize.SL.Sem
open Cert.KernelIdeal Cert.KernelIdeal.Gen

/-! The devices at an offset from one another, the sixteen slots of a buffer, and what the slots hold. -/

/-! ## Devices at an offset -/

/-- The device `o` places after `d`, and the one `o` places before. -/
def up (d : Dev nD) (o : Fin 16) : Dev nD := ⟨(d.val + o.val) % 16, Nat.mod_lt _ (by decide)⟩
def dn (d : Dev nD) (o : Fin 16) : Dev nD := ⟨(d.val + (16 - o.val)) % 16, Nat.mod_lt _ (by decide)⟩

theorem dev_lt (d : Dev nD) : d.val < 16 := d.isLt

theorem up_dn (d : Dev nD) (o : Fin 16) : up (dn d o) o = d := by
  have := dev_lt d; have := o.isLt; exact Fin.ext (by simp only [up, dn]; omega)
theorem dn_up (d : Dev nD) (o : Fin 16) : dn (up d o) o = d := by
  have := dev_lt d; have := o.isLt; exact Fin.ext (by simp only [up, dn]; omega)
theorem dn_zero (d : Dev nD) : dn d 0 = d := by
  have := dev_lt d; exact Fin.ext (by simp only [dn, Fin.val_zero]; omega)
theorem up_zero (d : Dev nD) : up d 0 = d := by
  have := dev_lt d; exact Fin.ext (by simp only [up, Fin.val_zero]; omega)

/-- The devices that are signalled and sent to are those at the offset. -/
theorem sigDev_eq (d : Dev nD) (r : Fin 15) : sigDev d r = dn d r.succ := by
  revert d r; decide +kernel
theorem dstDev_eq (d : Dev nD) (r : Fin 15) : dstDev d r = up d r.succ := by
  revert d r; decide +kernel
theorem barDev_fst (d : Dev nD) : (⟨k0_dev16 d, k0_dev16_lt d⟩ : Dev nD) = up d 1 := by
  revert d; decide +kernel
theorem barDev_snd (d : Dev nD) : (⟨k0_dev17 d, k0_dev17_lt d⟩ : Dev nD) = dn d 1 := by
  revert d; decide +kernel

/-! ## Slots -/

section Slot

variable {a b : Nat}

/-- A buffer of sixteen slots, and a slot of it. -/
abbrev Sixteen (a b : Nat) : Shape := ⟨3, ![16, a, b]⟩
abbrev One (a b : Nat) : Shape := ⟨3, ![1, a, b]⟩

/-- The indices of slot `s`. -/
def slotSet (a b : Nat) (s : Fin 16) : Finset (Sixteen a b).Idx := Finset.univ.filter fun i => (i 0).val = s.val

theorem mem_slotSet {s : Fin 16} {i : (Sixteen a b).Idx} : i ∈ slotSet a b s ↔ (i 0).val = s.val := by simp [slotSet]

/-- The slot an index is in, and its place there. -/
def slotOf (i : (Sixteen a b).Idx) : Fin 16 := ⟨(i 0).val, (i 0).isLt⟩
def within (i : (Sixteen a b).Idx) : (One a b).Idx := fun k =>
  ⟨if k.val = 0 then 0 else (i k).val, by
    rcases k with ⟨_ | _ | _ | n, hk⟩
    · exact Nat.one_pos
    · exact (i 1).isLt
    · exact (i 2).isLt
    · exact absurd hk (by show ¬ n + 3 < 3; omega)⟩

/-- The contents of a buffer of sixteen slots, from the contents of each slot. -/
def stack {α : Type} (f : Fin 16 → (One a b).Idx → α) : (Sixteen a b).Idx → α := fun i => f (slotOf i) (within i)

theorem slot_emb {s : Fin 16} {off : Fin 3 → Nat} (h : off = ![s.val, 0, 0])
    (inb : ∀ k, off k + (One a b).size k ≤ (Sixteen a b).size k) (x : (One a b).Idx) :
    slotOf ((Rect.unit (s := Sixteen a b) off (One a b).size inb).emb x) = s
      ∧ within ((Rect.unit (s := Sixteen a b) off (One a b).size inb).emb x) = x := by
  subst h
  have h0 : (x 0).val = 0 := Nat.lt_one_iff.mp (x 0).isLt
  refine ⟨Fin.ext ?_, funext fun k => Fin.ext ?_⟩
  · show s.val + 1 * (x 0).val = s.val
    omega
  · rcases k with ⟨_ | _ | _ | n, hk⟩
    · exact h0.symm
    · show 0 + 1 * (x 1).val = (x 1).val
      omega
    · show 0 + 1 * (x 2).val = (x 2).val
      omega
    · exact absurd hk (by show ¬ n + 3 < 3; omega)

theorem stack_emb {α : Type} {s : Fin 16} {off : Fin 3 → Nat} (h : off = ![s.val, 0, 0])
    (inb : ∀ k, off k + (One a b).size k ≤ (Sixteen a b).size k) (f : Fin 16 → (One a b).Idx → α) :
    (fun x => stack f ((Rect.unit (s := Sixteen a b) off (One a b).size inb).emb x)) = f s :=
  funext fun x => by
    obtain ⟨h1, h2⟩ := slot_emb h inb x
    unfold stack; rw [h1, h2]

theorem slot_set {s : Fin 16} {off : Fin 3 → Nat} (h : off = ![s.val, 0, 0])
    (inb : ∀ k, off k + (One a b).size k ≤ (Sixteen a b).size k) :
    (Rect.unit (s := Sixteen a b) off (One a b).size inb).set = slotSet a b s := by
  subst h
  ext i
  rw [Rect.mem_set_unit, mem_slotSet]
  constructor
  · intro h
    have h1 : s.val ≤ (i 0).val ∧ (i 0).val < s.val + 1 := h 0
    omega
  · intro h k
    rcases k with ⟨_ | _ | _ | n, hk⟩
    · show s.val ≤ (i 0).val ∧ (i 0).val < s.val + 1
      omega
    · exact ⟨Nat.zero_le _, by show (i 1).val < 0 + a; have : (i 1).val < a := (i 1).isLt; omega⟩
    · exact ⟨Nat.zero_le _, by show (i 2).val < 0 + b; have : (i 2).val < b := (i 2).isLt; omega⟩
    · exact absurd hk (by show ¬ n + 3 < 3; omega)

theorem slots_disjoint : ∀ s ∈ (Finset.univ : Finset (Fin 16)), ∀ s' ∈ (Finset.univ : Finset (Fin 16)), s ≠ s' →
    Disjoint (slotSet a b s) (slotSet a b s') := fun s _ s' _ h =>
  Finset.disjoint_left.mpr fun i hi hi' => h (Fin.ext ((mem_slotSet.mp hi).symm.trans (mem_slotSet.mp hi')))

theorem slots_cover : (Finset.univ : Finset (Fin 16)).biUnion (slotSet a b) = Finset.univ := by
  ext i
  simp only [Finset.mem_biUnion, Finset.mem_univ, true_and, iff_true]
  exact ⟨slotOf i, mem_slotSet.mpr rfl⟩

end Slot

/-! ## Blocks of rows -/

section Rows

variable {n k : Nat}

/-- The `s`-th block of 256 rows of an array. -/
def rowSet (k : Nat) (s : Fin 16) : Finset (Shape.Idx ⟨2, ![4096, k]⟩) := Finset.univ.filter fun i => (i 0).val / 256 = s.val

theorem mem_rowSet {s : Fin 16} {i : Shape.Idx ⟨2, ![4096, k]⟩} : i ∈ rowSet k s ↔ (i 0).val / 256 = s.val := by simp [rowSet]

/-- The place in the array of a place in the `s`-th block. -/
def inRows (s : Fin 16) (x : Shape.Idx ⟨2, ![256, k]⟩) : Shape.Idx ⟨2, ![4096, k]⟩ := fun j =>
  ⟨if j.val = 0 then 256 * s.val + (x 0).val else (x 1).val, by
    rcases j with ⟨_ | _ | m, hj⟩
    · have h0 : (x 0).val < 256 := (x 0).isLt
      have := s.isLt
      show 256 * s.val + (x 0).val < 4096
      omega
    · exact (x 1).isLt
    · exact absurd hj (by show ¬ m + 2 < 2; omega)⟩

/-- The `s`-th block of rows of an array's contents. -/
def rowsOf {α : Type} (f : Shape.Idx ⟨2, ![4096, k]⟩ → α) (s : Fin 16) : Shape.Idx ⟨2, ![256, k]⟩ → α := fun x => f (inRows s x)

theorem rows_emb {s : Fin 16} {off : Fin 2 → Nat} (h : off = ![256 * s.val, 0])
    (inb : ∀ j, off j + (⟨2, ![256, k]⟩ : Shape).size j ≤ (⟨2, ![4096, k]⟩ : Shape).size j) (x : Shape.Idx ⟨2, ![256, k]⟩) :
    (Rect.unit (s := ⟨2, ![4096, k]⟩) off (⟨2, ![256, k]⟩ : Shape).size inb).emb x = inRows s x := by
  subst h
  funext j
  rcases j with ⟨_ | _ | m, hj⟩
  · exact Fin.ext (show 256 * s.val + 1 * (x 0).val = 256 * s.val + (x 0).val by omega)
  · exact Fin.ext (show 0 + 1 * (x 1).val = (x 1).val by omega)
  · exact absurd hj (by show ¬ m + 2 < 2; omega)

theorem rows_set {s : Fin 16} {off : Fin 2 → Nat} (h : off = ![256 * s.val, 0])
    (inb : ∀ j, off j + (⟨2, ![256, k]⟩ : Shape).size j ≤ (⟨2, ![4096, k]⟩ : Shape).size j) :
    (Rect.unit (s := ⟨2, ![4096, k]⟩) off (⟨2, ![256, k]⟩ : Shape).size inb).set = rowSet k s := by
  subst h
  ext i
  rw [Rect.mem_set_unit, mem_rowSet]
  constructor
  · intro h
    have h1 : 256 * s.val ≤ (i 0).val ∧ (i 0).val < 256 * s.val + 256 := h 0
    omega
  · intro h j
    rcases j with ⟨_ | _ | m, hj⟩
    · show 256 * s.val ≤ (i 0).val ∧ (i 0).val < 256 * s.val + 256
      omega
    · exact ⟨Nat.zero_le _, by show (i 1).val < 0 + k; have : (i 1).val < k := (i 1).isLt; omega⟩
    · exact absurd hj (by show ¬ m + 2 < 2; omega)

theorem rows_disjoint : ∀ s ∈ (Finset.univ : Finset (Fin 16)), ∀ s' ∈ (Finset.univ : Finset (Fin 16)), s ≠ s' →
    Disjoint (rowSet k s) (rowSet k s') := fun s _ s' _ h =>
  Finset.disjoint_left.mpr fun i hi hi' => h (Fin.ext ((mem_rowSet.mp hi).symm.trans (mem_rowSet.mp hi')))

theorem rows_cover : (Finset.univ : Finset (Fin 16)).biUnion (rowSet k) = Finset.univ := by
  ext i
  simp only [Finset.mem_biUnion, Finset.mem_univ, true_and, iff_true]
  have : (i 0).val < 4096 := (i 0).isLt
  exact ⟨⟨(i 0).val / 256, by omega⟩, mem_rowSet.mpr rfl⟩

end Rows

/-! ## Reading and writing at known contents -/

/-- A write through a view of what the view already reads of `f` leaves the view's elements as in `f`. -/
theorem write_of_read {sig : RefSig} {κ : Kind} {sp : Space} {s : Shape} {e : EltTy} {Val : EltTy → Type} (v : View sig κ sp s e)
    {f : v.ty.Contents Val} {w : s.Idx → Val e} (h : v.read Val f = w) (f' : v.ty.Contents Val) :
    ∀ i ∈ v.set, v.write Val f' w Finset.univ i = f i := by
  intro i hi
  obtain ⟨x, -, rfl⟩ := Finset.mem_map.mp hi
  rw [View.write_emb_of_mem _ _ (Finset.mem_univ x), ← h, View.read_apply, cast_cast, cast_eq]

/-! ## The rectangles and views of the body -/

section Offsets

variable (d : Dev nD)

theorem off1_at (t : Fin 16) : k0_off1 d (BitVec.ofNat 32 (po t).val) = ![256 * (dn d (po t)).val, 0] := by
  rw [k0_off1_eq d (po t)]
  have := dev_lt d; have := (po t).isLt
  refine congrArg (fun n : Nat => (![256 * n, 0] : Fin 2 → Nat)) ?_
  simp only [dn]; omega

theorem off2_at (r : Fin 15) : k0_off2 d (BitVec.ofNat 32 (1 + r.val)) = ![256 * (up d r.succ).val, 0] := by
  rw [k0_off2_eq d r]
  rfl

theorem off3_at (r : Fin 15) : k0_off3 d (BitVec.ofNat 32 (1 + r.val)) = ![(up d r.succ).val, 0, 0] := by
  rw [k0_off3_eq d r]
  rfl

theorem off4_at : k0_off4 d = ![d.val, 0, 0] := by
  rw [k0_off4_eq d]

theorem off5_at (r : Fin 15) : k0_off5 d (BitVec.ofNat 32 (1 + r.val)) = ![(up d r.succ).val, 0, 0] := by
  rw [k0_off5_eq d r]
  rfl

theorem off6_at : k0_off6 d = ![256 * d.val, 0] := by
  rw [k0_off6_eq d]

theorem off7_at : k0_off7 d = ![d.val, 0, 0] := by
  rw [k0_off7_eq d]

theorem off8_at (o : Fin 16) : k0_off8 d (BitVec.ofNat 32 o.val) = ![(dn d o).val, 0, 0] := by
  rw [k0_off8_eq d o]
  have := dev_lt d; have := o.isLt
  refine congrArg (fun n : Nat => (![n, 0, 0] : Fin 3 → Nat)) ?_
  simp only [dn]; omega

theorem off9_at (r : Fin 15) : k0_off9 d (BitVec.ofNat 32 (1 + r.val)) = ![(dn d r.succ).val, 0, 0] := by
  rw [k0_off9_eq d r]
  have := dev_lt d; have := r.isLt
  refine congrArg (fun n : Nat => (![n, 0, 0] : Fin 3 → Nat)) ?_
  simp only [dn, Fin.val_succ]; omega

end Offsets

/-- A slot index as a device's number. -/
abbrev dv (d : Dev nD) : Fin 16 := d

section Views

variable (d : Dev nD)

theorem set_xSrc (r : Fin 15) : (xSrc d r).view.set = slotSet 256 256 (dv (up d r.succ)) :=
  (Memref.set_view_squeeze _ _).trans ((View.set_slice_whole _ _).trans (slot_set (off5_at d r) _))
theorem set_xDst : (xDst d).view.set = slotSet 256 256 (dv d) :=
  (Memref.set_view_squeeze _ _).trans ((View.set_slice_whole _ _).trans (slot_set (off4_at d) _))
theorem set_wSrc (t : Fin 16) : (wSrc d t).view.set = rowSet 2048 (dv (dn d (po t))) :=
  (View.set_slice_whole _ _).trans (rows_set (off1_at d t) _)
theorem set_wDst (t : Fin 16) : (wDst t).view.set = slotSet 256 2048 t :=
  (Memref.set_view_squeeze _ _).trans ((View.set_slice_whole _ _).trans (slot_set rfl _))
theorem set_rSend (r : Fin 15) : (rSend d r).set = slotSet 256 256 (dv (up d r.succ)) := slot_set (off3_at d r) _
theorem set_rGotOwn : (rGotOwn d).set = slotSet 256 256 (dv d) := slot_set (off7_at d) _
theorem set_rGot (o : Fin 16) : (rGot d o).set = slotSet 256 256 (dv (dn d o)) := slot_set (off8_at d o) _
theorem set_rSlot (t : Fin 16) : (rSlot t).set = slotSet 256 2048 t := slot_set rfl _

end Views

end Cert.Proof
-- ==== Proof.Contents.lean ====
module

public import proofs.«01_k».proof.Proof.Slots

@[expose] public section

noncomputable section

namespace Cert.Proof

open Idealize.ShloMosaic Idealize.ShloMosaic.TcCoe
open Idealize.SL Idealize.SL.Sem
open Cert.KernelIdeal Cert.KernelIdeal.Gen

variable {F : FTy → Type} [FloatOps F]

/-! What every buffer holds once it is filled, as a function of the memory at launch, and what the body's
    loads and copies read of it. -/

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## Contents -/

/-- Device `c`'s block of columns of `x`, as staged. -/
def xstg (c : Dev nD) : Vec F S4096x256 .fp8e4m3 := (win0_0.blk (0 : Fin 1)).view.read (Elt F) ((s₀ m ρ).mem ((c : Thread nD τ).loc main_arg0))
/-- The two scales as staged. -/
def sxstg (c : Dev nD) : Vec F S1 .f32 := (win0_1.blk (0 : Fin 1)).view.read (Elt F) ((s₀ m ρ).mem ((c : Thread nD τ).loc main_arg2))
def swstg (c : Dev nD) : Vec F S1 .f32 := (win0_2.blk (0 : Fin 1)).view.read (Elt F) ((s₀ m ρ).mem ((c : Thread nD τ).loc main_arg3))
/-- Device `c`'s copy of the weights. -/
def wmem (c : Dev nD) : Vec F S4096x2048 .f32 := (s₀ m ρ).mem ((c : Thread nD τ).loc main_arg1)

/-- The weights that step `t` of device `c` uses. -/
def wblk (c : Dev nD) (t : Fin 16) : FVec F S1x256x2048 .f32 :=
  shapeCast S1x256x2048 (rowsOf (wmem m ρ c) (dv (dn c (po t)))) shapeCasts_S256x2048_S1x256x2048

/-- The send buffer: slot `s` holds the rows of `c`'s block that device `s` needs. -/
def sendF (c : Dev nD) : Vec F S16x256x256 .fp8e4m3 := stack fun s => lead (rowsOf (xstg m ρ c) s)
/-- The receive buffer: slot `s` holds the rows of device `s`'s block that `c` needs. -/
def gotF (c : Dev nD) : Vec F S16x256x256 .fp8e4m3 := stack fun s => lead (rowsOf (xstg m ρ s) (dv c))
/-- The weights of the sixteen steps, as copied and narrowed. -/
def wbF (c : Dev nD) : Vec F S16x256x2048 .f32 := stack fun t => wblk m ρ c t
def weF (c : Dev nD) : Vec F S16x256x2048 .fp8e5m2 := stack fun t => narrow (wblk m ρ c t)

/-! ## What is read -/

section Reads

variable (c d : Dev nD)

theorem read_rX (r : Fin 15) : (mX.view.readAt (Elt F) (rX d r).toLoadRect (xstg m ρ c)) = rowsOf (xstg m ρ c) (dv (up d r.succ)) :=
  funext fun x => congrArg (xstg m ρ c) (rows_emb (off2_at d r) _ x)
theorem read_rXown : (mX.view.readAt (Elt F) (rXown d).toLoadRect (xstg m ρ c)) = rowsOf (xstg m ρ c) (dv d) :=
  funext fun x => congrArg (xstg m ρ c) (rows_emb (off6_at d) _ x)
theorem read_wSrc (t : Fin 16) : (wSrc d t).view.read (Elt F) (wmem m ρ c) = rowsOf (wmem m ρ c) (dv (dn d (po t))) :=
  funext fun x => congrArg (wmem m ρ c) (rows_emb (off1_at d t) _ x)

theorem read_rSend (r : Fin 15) : (mSend.access (rSend d r)).read (Elt F) (sendF m ρ c) = lead (rowsOf (xstg m ρ c) (dv (up d r.succ))) :=
  stack_emb (a := 256) (b := 256) (off3_at d r) _ (fun s => lead (rowsOf (xstg m ρ c) s))
theorem read_rGotOwn : (mGot.access (rGotOwn d)).read (Elt F) (gotF m ρ c) = lead (rowsOf (xstg m ρ d) (dv c)) :=
  stack_emb (a := 256) (b := 256) (off7_at d) _ (fun s => lead (rowsOf (xstg m ρ s) (dv c)))
theorem read_rGot (o : Fin 16) : mGot.view.readAt (Elt F) (rGot d o).toLoadRect (gotF m ρ c) = lead (rowsOf (xstg m ρ (dn d o)) (dv c)) :=
  stack_emb (a := 256) (b := 256) (off8_at d o) _ (fun s => lead (rowsOf (xstg m ρ s) (dv c)))
theorem read_wb (t : Fin 16) : mWb.view.readAt (Elt F) (rSlot t).toLoadRect (wbF m ρ c) = wblk m ρ c t :=
  stack_emb (a := 256) (b := 2048) rfl _ (fun t => wblk m ρ c t)
theorem read_we (t : Fin 16) : mWe.view.readAt (Elt F) (rSlot t).toLoadRect (weF m ρ c) = narrow (wblk m ρ c t) :=
  stack_emb (a := 256) (b := 2048) rfl _ (fun t => narrow (wblk m ρ c t))
theorem read_we' (t : Fin 16) : (mWe.access (rSlot t)).read (Elt F) (weF m ρ c) = narrow (wblk m ρ c t) :=
  stack_emb (a := 256) (b := 2048) rfl _ (fun t => narrow (wblk m ρ c t))

/-- What is sent at an offset is what the receiver's slot is to hold. -/
theorem read_xSrc_xDst (r : Fin 15) :
    (xDst c).view.read (Elt F) (gotF m ρ (up c r.succ)) = (xSrc c r).view.read (Elt F) (sendF m ρ c) := by
  show shapeCast S256x256 ((mGot.access (Rect.unit (s := S16x256x256) (k0_off4 c) S1x256x256.size (k0_off4_inb c))).read (Elt F) (gotF m ρ (up c r.succ))) shapeCasts_S1x256x256_S256x256
    = shapeCast S256x256 ((mSend.access (Rect.unit (s := S16x256x256) (k0_off5 c (BitVec.ofNat 32 (1 + r.val))) S1x256x256.size (k0_off5_inb c r))).read (Elt F) (sendF m ρ c)) shapeCasts_S1x256x256_S256x256
  refine congrArg (fun v => shapeCast S256x256 v shapeCasts_S1x256x256_S256x256) ?_
  exact (stack_emb (off4_at c) _ (fun s => lead (rowsOf (xstg m ρ s) (dv (up c r.succ))))).trans
    (stack_emb (off5_at c r) _ (fun s => lead (rowsOf (xstg m ρ c) s))).symm

/-- What is copied from the weights at a step is what the step's slot is to hold. -/
theorem read_wSrc_wDst (t : Fin 16) :
    (wDst t).view.read (Elt F) (wbF m ρ c) = (wSrc c t).view.read (Elt F) (wmem m ρ c) := by
  rw [read_wSrc]
  show shapeCast S256x2048 ((mWb.access (rSlot t)).read (Elt F) (wbF m ρ c)) shapeCasts_S1x256x2048_S256x2048 = _
  rw [show (mWb.access (rSlot t)).read (Elt F) (wbF m ρ c) = wblk m ρ c t from read_wb m ρ c t]
  unfold wblk
  funext x
  simp only [shapeCast, Shape.reshapeEquiv_reshapeEquiv, Shape.reshapeEquiv_self]

end Reads

end Cert.Proof
-- ==== Proof.Sched.lean ====
module

public import proofs.«01_k».proof.Proof.Contents
public import Idealize.ShloMosaic.Lib.Pipeline.Launch
public import Idealize.ShloMosaic.Lib.Pipeline.Kit

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws
open Idealize.SL.ProofMode Idealize.SL.Sem
open Idealize.ShloMosaic.Rounds
open Cert.KernelIdeal Cert.KernelIdeal.Gen

variable {F : FTy → Type} [FloatOps F]

/-! The schedule: for every semaphore, who pays it, how much, and what is handed over with the payment. -/

/-- One instance of the round algebra for the body's semaphores, beside the staging's. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Cells -/

abbrev rdyCell (c : Dev nD) (o : Fin 16) : GSem nD τ sig := ((c : Thread nD τ), .reg (rdyS o))
abbrev sndCell (c : Dev nD) (o : Fin 16) : GSem nD τ sig := ((c : Thread nD τ), .dma (sndS o))
abbrev rcvCell (c : Dev nD) (o : Fin 16) : GSem nD τ sig := ((c : Thread nD τ), .dma (rcvS o))
abbrev wdmCell (c : Dev nD) (t : Fin 16) : GSem nD τ sig := ((c : Thread nD τ), .dma (wdmS t))
abbrev barCell (c : Dev nD) : GSem nD τ sig := ((c : Thread nD τ), .reg barS)

/-- What a semaphore is for. -/
inductive Kd where
  | bar
  | rdy (r : Fin 15)
  | snd (r : Fin 15)
  | rcv (r : Fin 15)
  | wdm (t : Fin 16)
  | idle
deriving DecidableEq

def kind : SemLoc sig → Kd
  | .reg i => if i.val = 16 then .bar else if h : 1 ≤ i.val ∧ i.val < 16 then .rdy ⟨i.val - 1, by omega⟩ else .idle
  | .dma i =>
    if h : 5 ≤ i.val ∧ i.val < 20 then .snd ⟨i.val - 5, by omega⟩
    else if h : 21 ≤ i.val ∧ i.val < 36 then .rcv ⟨i.val - 21, by omega⟩
    else if h : 36 ≤ i.val ∧ i.val < 52 then .wdm ⟨i.val - 36, by omega⟩
    else .idle

theorem kind_bar : kind (.reg barS) = .bar := by decide
theorem kind_rdy (r : Fin 15) : kind (.reg (rdyS r.succ)) = .rdy r := by revert r; decide
theorem kind_snd (r : Fin 15) : kind (.dma (sndS r.succ)) = .snd r := by revert r; decide
theorem kind_rcv (r : Fin 15) : kind (.dma (rcvS r.succ)) = .rcv r := by revert r; decide
theorem kind_wdm (t : Fin 16) : kind (.dma (wdmS t)) = .wdm t := by revert t; decide

/-! ## Slots in the logic -/

section Pts

variable (c : Dev nD) (s : Fin 16)

/-- Slot `s` of device `c`'s send buffer, receive buffer, copied weights and narrowed weights, and the `s`-th rows of its weights. -/
def sendPts (f : Buf (Elt F) ((c : Thread nD τ).loc cc0_scratch0)) : sProp 𝕄 := ((c : Thread nD τ).loc cc0_scratch0) ↦[slotSet 256 256 s]{fullShare} f
def gotPts (f : Buf (Elt F) ((c : Thread nD τ).loc cc0_scratch1)) : sProp 𝕄 := ((c : Thread nD τ).loc cc0_scratch1) ↦[slotSet 256 256 s]{fullShare} f
def wbPts (f : Buf (Elt F) ((c : Thread nD τ).loc cc0_scratch2)) : sProp 𝕄 := ((c : Thread nD τ).loc cc0_scratch2) ↦[slotSet 256 2048 s]{fullShare} f
def wePts (f : Buf (Elt F) ((c : Thread nD τ).loc cc0_scratch3)) : sProp 𝕄 := ((c : Thread nD τ).loc cc0_scratch3) ↦[slotSet 256 2048 s]{fullShare} f
def wPts (f : Buf (Elt F) ((c : Thread nD τ).loc main_arg1)) : sProp 𝕄 := ((c : Thread nD τ).loc main_arg1) ↦[rowSet 2048 s]{fullShare} f

instance sendPts_storable (f) : BI.Storable (upEmb : UEmb _ 𝕄) (sendPts (F := F) c s f) := by unfold sendPts; infer_instance
instance gotPts_storable (f) : BI.Storable (upEmb : UEmb _ 𝕄) (gotPts (F := F) c s f) := by unfold gotPts; infer_instance
instance wbPts_storable (f) : BI.Storable (upEmb : UEmb _ 𝕄) (wbPts (F := F) c s f) := by unfold wbPts; infer_instance
instance wPts_storable (f) : BI.Storable (upEmb : UEmb _ 𝕄) (wPts (F := F) c s f) := by unfold wPts; infer_instance

end Pts

/-! ## The schedule -/

/-- What a block's transfer and a slot of weights' copy credit. -/
abbrev N : ℕ := (xDst 0).view.dmaCredit
abbrev NW : ℕ := (wDst 0).view.dmaCredit
theorem N_pos : 0 < N := View.dmaCredit_pos _ (by decide)
theorem NW_pos : 0 < NW := View.dmaCredit_pos _ (by decide)

theorem credit_xDst (c : Dev nD) : (xDst c).view.dmaCredit = N := rfl
theorem credit_xSrc (c : Dev nD) (r : Fin 15) : (xSrc c r).view.dmaCredit = N := rfl
theorem credit_xGot (c : Dev nD) (r : Fin 15) : (xGot c r).view.dmaCredit = N := rfl
theorem credit_wDst (t : Fin 16) : (wDst t).view.dmaCredit = NW := rfl

/-- Device `c`'s ready semaphore at offset `o` hands it the slot of the device at `o` that it is to fill, and that this device has
    reached round 0 of the semaphore the transfer credits there. -/
def rdyPay (c : Dev nD) (r : Fin 15) : sProp 𝕄 :=
  iprop((∃ f, gotPts (up c r.succ) (dv c) f) ∗ reached ER (rcvCell (up c r.succ) r.succ) 0)
/-- Its send semaphore hands back the slot sent, its receive semaphore the block received, -/
def sndPay (c : Dev nD) (r : Fin 15) : sProp 𝕄 := sendPts c (dv (up c r.succ)) (sendF m ρ c)
def rcvPay (c : Dev nD) (r : Fin 15) : sProp 𝕄 := gotPts c (dv (dn c r.succ)) (gotF m ρ c)
/-- and a step's weight semaphore the slot of weights, with the rows it was copied from. -/
def wdmPay (c : Dev nD) (t : Fin 16) : sProp 𝕄 := iprop(wbPts c t (wbF m ρ c) ∗ wPts c (dv (dn c (po t))) (wmem m ρ c))

instance rdyPay_storable (c : Dev nD) (r) : BI.Storable (upEmb : UEmb _ 𝕄) (rdyPay (F := F) c r) := by unfold rdyPay; infer_instance
instance sndPay_storable (c : Dev nD) (r) : BI.Storable (upEmb : UEmb _ 𝕄) (sndPay m ρ c r) := by unfold sndPay; infer_instance
instance rcvPay_storable (c : Dev nD) (r) : BI.Storable (upEmb : UEmb _ 𝕄) (rcvPay m ρ c r) := by unfold rcvPay; infer_instance
instance wdmPay_storable (c : Dev nD) (t) : BI.Storable (upEmb : UEmb _ 𝕄) (wdmPay m ρ c t) := by unfold wdmPay; infer_instance

def dutiesOf : Kd → Finset Bool
  | .bar => Finset.univ
  | .idle => ∅
  | _ => {false}

/-- The amount of a semaphore, at the credits `n` of a block and `nw` of a slot of weights. -/
def amountBy (n nw : ℕ) : Kd → ℕ
  | .snd _ => n
  | .rcv _ => n
  | .wdm _ => nw
  | _ => 1

theorem amountBy_pos {n nw : ℕ} (hn : 0 < n) (hw : 0 < nw) : ∀ k : Kd, 0 < amountBy n nw k
  | .bar => Nat.one_pos
  | .rdy _ => Nat.one_pos
  | .snd _ => hn
  | .rcv _ => hn
  | .wdm _ => hw
  | .idle => Nat.one_pos
theorem amountBy_snd (n nw : ℕ) (r : Fin 15) : amountBy n nw (.snd r) = n := rfl
theorem amountBy_rcv (n nw : ℕ) (r : Fin 15) : amountBy n nw (.rcv r) = n := rfl
theorem amountBy_wdm (n nw : ℕ) (t : Fin 16) : amountBy n nw (.wdm t) = nw := rfl
theorem amountBy_rdy (n nw : ℕ) (r : Fin 15) : amountBy n nw (.rdy r) = 1 := rfl
theorem amountBy_bar (n nw : ℕ) : amountBy n nw .bar = 1 := rfl

def payOf (c : Dev nD) : Kd → sProp 𝕄
  | .bar => iprop(emp)
  | .rdy r => rdyPay c r
  | .snd r => sndPay m ρ c r
  | .rcv r => rcvPay m ρ c r
  | .wdm t => wdmPay m ρ c t
  | .idle => iprop(emp)

instance payOf_storable (c : Dev nD) (k : Kd) : BI.Storable (upEmb : UEmb _ 𝕄) (payOf m ρ c k) := by
  cases k <;> (unfold payOf; infer_instance)

/-- One round: the duties of each semaphore of a TensorCore, by what it is for. -/
def Rd : Rounds.Schedule (GSem nD τ sig) Bool 𝕄 where
  duties g r := if r = 0 ∧ g.1.2 = .tc then dutiesOf (kind g.2) else ∅
  unitless _ := False
  amount g _ _ := amountBy N NW (kind g.2)
  payload g _ _ := payOf m ρ g.1.1 (kind g.2)
  amount_pos g _ _ _ := amountBy_pos N_pos NW_pos _

instance Rd_payload_storable (g : GSem nD τ sig) (r : ℕ) (d : Bool) : BI.Storable (upEmb : UEmb _ 𝕄) ((Rd m ρ).payload g r d) :=
  payOf_storable m ρ g.1.1 (kind g.2)

section Facts

variable (c : Dev nD) (sm : SemLoc sig)

theorem duties_at {k : Kd} (h : kind sm = k) : (Rd m ρ).duties ((c : Thread nD τ), sm) 0 = dutiesOf k :=
  by
  show (if (0 : ℕ) = 0 ∧ (c : Thread nD τ).2 = .tc then dutiesOf (kind sm) else ∅) = dutiesOf k
  rw [if_pos ⟨rfl, rfl⟩, h]
theorem amount_at {k : Kd} (h : kind sm = k) (d : Bool) : (Rd m ρ).amount ((c : Thread nD τ), sm) 0 d = amountBy N NW k := congrArg (amountBy N NW) h
theorem payload_at {k : Kd} (h : kind sm = k) (d : Bool) : (Rd m ρ).payload ((c : Thread nD τ), sm) 0 d = payOf m ρ c k := congrArg (payOf m ρ c) h
theorem duties_later (g : GSem nD τ sig) : ∀ r, 1 ≤ r → (Rd m ρ).duties g r = ∅ :=
  fun r hr => if_neg fun h => by omega
theorem duties_idle (h : kind sm = .idle) : ∀ r, 0 ≤ r → (Rd m ρ).duties ((c : Thread nD τ), sm) r = ∅ := fun r _ => by
  show (if r = 0 ∧ _ then dutiesOf (kind sm) else ∅) = ∅
  rw [h]; split <;> rfl

/-- A semaphore of one duty: what it expects, and what its round hands over. -/
theorem expect_one {k : Kd} (h : kind sm = k) (hk : dutiesOf k = {false}) : (Rd m ρ).expect ((c : Thread nD τ), sm) 0 = amountBy N NW k := by
  unfold Schedule.expect Schedule.amountOf
  rw [duties_at m ρ c sm h, hk, Finset.sum_singleton, amount_at m ρ c sm h]
theorem rest_one {k : Kd} (h : kind sm = k) (hk : dutiesOf k = {false}) :
    bigSep ((Rd m ρ).duties ((c : Thread nD τ), sm) 0 \ ∅) (fun d => (Rd m ρ).payload ((c : Thread nD τ), sm) 0 d) = payOf m ρ c k := by
  rw [Finset.sdiff_empty, duties_at m ρ c sm h, hk, bigSep_singleton, payload_at m ρ c sm h]

theorem expect_bar : (Rd m ρ).expect (barCell c) 0 = 2 := by
  unfold Schedule.expect Schedule.amountOf
  rw [duties_at m ρ c _ kind_bar, Finset.sum_congr rfl fun d _ => amount_at m ρ c _ kind_bar d]
  rw [amountBy_bar]
  show (∑ _d : Bool, 1) = 2
  rw [Finset.sum_const, Finset.card_univ, Fintype.card_bool, smul_eq_mul]

end Facts

/-! ## Levels -/

def L (g : GSem nD τ sig) : Finset Unit := if g.1.2 = .tc then {()} else ∅
def levOf : Kd → ℕ
  | .bar => 1
  | .rdy _ => 1
  | .rcv _ => 2
  | _ => 0
def lv (g : GSem nD τ sig) (_ : Unit) : ℕ := levOf (kind g.2)

theorem L_of_ne (g : GSem nD τ sig) (h : g.1.2 ≠ .tc) : L g = ∅ := if_neg h
theorem L_tc (c : Dev nD) (sm : SemLoc sig) : L ((c : Thread nD τ), sm) = {()} := if_pos rfl

/-! ## What each device owes at launch -/

/-- A sum of tallies along a list, its head last. -/
def lsum {α : Type} : List α → (α → CellTallies nD τ sig Unit) → CellTallies nD τ sig Unit
  | [], _ => 0
  | a :: l, f => lsum l f + f a

theorem lsum_pos {α : Type} {f : α → CellTallies nD τ sig Unit} {g : GSem nD τ sig} {u : Unit} :
    ∀ {l : List α}, 0 < lsum l f g u → ∃ a ∈ l, 0 < f a g u
  | [], h => absurd h (Nat.lt_irrefl 0)
  | a :: l, h => by
    have h' : 0 < lsum l f g u + f a g u := h
    rcases Nat.eq_zero_or_pos (f a g u) with h0 | h0
    · obtain ⟨b, hb, hp⟩ := lsum_pos (l := l) (f := f) (g := g) (u := u) (by omega)
      exact ⟨b, List.mem_cons_of_mem _ hb, hp⟩
    · exact ⟨a, List.mem_cons_self, h0⟩

theorem lsum_eq_sum {α : Type} [Fintype α] [DecidableEq α] (f : α → CellTallies nD τ sig Unit) (l : List α) (hn : l.Nodup) (hm : ∀ a, a ∈ l) :
    lsum l f = ∑ a, f a := by
  have h : ∀ l : List α, lsum l f = (l.map f).sum := by
    intro l; induction l with
    | nil => rfl
    | cons a l ih => rw [List.map_cons, List.sum_cons, lsum, ih, add_comm]
  rw [h, ← List.sum_toFinset f hn]
  exact Finset.sum_congr (Finset.ext fun a => by simp [hm a]) fun _ _ => rfl

/-- The blocks that are to be sent; the barrier's units; the ready units. -/
def owedRcv (c : Dev nD) (l : List (Fin 15)) : CellTallies nD τ sig Unit := lsum l fun r => tallyAt (rcvCell (up c r.succ) r.succ) () N
def owedRdy (c : Dev nD) (l : List (Fin 15)) : CellTallies nD τ sig Unit := lsum l fun r => tallyAt (rdyCell (dn c r.succ) r.succ) () 1
def owedBar (c : Dev nD) : CellTallies nD τ sig Unit := owedRcv c offs + tallyAt (barCell (dn c 1)) () 1 + tallyAt (barCell (up c 1)) () 1
def O₀ (c : Dev nD) : CellTallies nD τ sig Unit := owedBar c + owedRdy c offs

/-- What is owed: only on TensorCores, at a level of at least `n`. -/
def Above (n : ℕ) (O : CellTallies nD τ sig Unit) : Prop := ∀ g u, 0 < O g u → g.1.2 = .tc ∧ n < levOf (kind g.2)

theorem above_zero (n : ℕ) : Above n 0 := fun _ _ h => absurd h (Nat.lt_irrefl 0)
theorem above_add {n : ℕ} {O O' : CellTallies nD τ sig Unit} (h : Above n O) (h' : Above n O') : Above n (O + O') := fun g u hg => by
  have hg' : 0 < O g u + O' g u := hg
  rcases Nat.eq_zero_or_pos (O g u) with h0 | h0
  · exact h' g u (by omega)
  · exact h g u h0
theorem above_tally {n : ℕ} (c : Dev nD) (sm : SemLoc sig) {k : Kd} (hk : kind sm = k) (h : n < levOf k) (a : ℕ) :
    Above n (tallyAt ((c : Thread nD τ), sm) () a) := fun g u hg => by
  rw [tallyAt_apply] at hg
  by_cases h' : g = ((c : Thread nD τ), sm) ∧ u = ()
  · rw [h'.1]; exact ⟨rfl, by show n < levOf (kind sm); rw [hk]; exact h⟩
  · rw [if_neg h'] at hg; exact absurd hg (Nat.lt_irrefl 0)
theorem above_lsum {α : Type} {n : ℕ} {l : List α} {f : α → CellTallies nD τ sig Unit} (h : ∀ a, Above n (f a)) : Above n (lsum l f) := fun g u hg => by
  obtain ⟨a, -, ha⟩ := lsum_pos hg
  exact h a g u ha

theorem above_owedRcv (c : Dev nD) (l : List (Fin 15)) : Above 1 (owedRcv c l) :=
  above_lsum fun r => above_tally _ _ (kind_rcv r) (show 1 < 2 by decide) _
theorem Above.mono {n n' : ℕ} (h : n' ≤ n) {O : CellTallies nD τ sig Unit} (hO : Above n O) : Above n' O := fun g u hg =>
  ⟨(hO g u hg).1, lt_of_le_of_lt h (hO g u hg).2⟩
theorem above_O₀ (c : Dev nD) : Above 0 (O₀ c) :=
  above_add (above_add (above_add ((above_owedRcv c offs).mono (Nat.zero_le 1)) (above_tally _ _ kind_bar (by decide) _)) (above_tally _ _ kind_bar (by decide) _))
    (above_lsum fun r => above_tally _ _ (kind_rdy r) (show 0 < 1 by decide) _)

/-- A device may wait on a semaphore below everything it owes. -/
theorem mayWait_of_above (c : Dev nD) (sm : SemLoc sig) {n : ℕ} (hn : levOf (kind sm) = n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by
      have h : g.1.2 = .tc := (hO g u hg).1
      unfold L; rw [if_pos h]; exact Finset.mem_singleton_self _)
    (fun p hp => by rw [Finset.mem_singleton.mp hp]; exact le_of_eq hn)
    (fun g u hg => (hO g u hg).2)

end Cert.Proof
-- ==== Proof.Segs.lean ====
module

public import proofs.«01_k».proof.Proof.Sched
public import Idealize.ShloMosaic.Lib.Tactic

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws
open Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! The loops that signal, copy, send and wait, each proved once at a step that is a variable. -/

/-! ## Lists of resources -/

/-- The resources `Φ a` for every `a` of a list. -/
def lsep {α : Type} : List α → (α → sProp 𝕄) → sProp 𝕄
  | [], _ => iprop(emp)
  | a :: l, Φ => iprop(Φ a ∗ lsep l Φ)

theorem lsep_nil {α : Type} (Φ : α → sProp 𝕄) : lsep [] Φ = iprop(emp) := rfl
theorem lsep_cons {α : Type} (a : α) (l : List α) (Φ : α → sProp 𝕄) : lsep (a :: l) Φ = iprop(Φ a ∗ lsep l Φ) := rfl

/-! ## The semaphores' invariants -/

/-- The body's semaphores: four of each index, and the barrier. -/
abbrev J : Type := Option (Fin 4 × Fin 16)
def osem : Fin 4 × Fin 16 → SemLoc sig := fun p => match p.1 with
  | 0 => .reg (rdyS p.2)
  | 1 => .dma (sndS p.2)
  | 2 => .dma (rcvS p.2)
  | 3 => .dma (wdmS p.2)
def csem : J → SemLoc sig
  | none => .reg barS
  | some p => osem p
abbrev kcell (ck : Dev nD × J) : GSem nD τ sig := ((ck.1 : Thread nD τ), csem ck.2)

/-- Every semaphore's invariant, under the names `K`, and that its round 0 is reached. -/
def records (K : Dev nD × J → ℕ) : sProp 𝕄 :=
  bigSep Finset.univ fun ck => iprop(cellInv ER (Rd m ρ) (K ck) (kcell ck) ∗ reached ER (kcell ck) 0)

instance records_persistent (K : Dev nD × J → ℕ) : BI.Persistent (records m ρ K) := by unfold records; infer_instance

theorem records_at (K : Dev nD × J → ℕ) (c : Dev nD) (j : J) :
    records m ρ K ⊢ iprop(cellInv ER (Rd m ρ) (K (c, j)) ((c : Thread nD τ), csem j) ∗ reached ER ((c : Thread nD τ), csem j) 0) :=
  bigSep_elim (Finset.mem_univ (c, j))

abbrev 𝒱₀ : Variants := Variants.none

/-- What a device owes, whatever it has waited on. -/
def ow (c : Dev nD) (O : CellTallies nD τ sig Unit) : sProp 𝕄 := iprop(∃ W, owes (c : Thread nD τ) O W)

/-- The body's weakest precondition on device `c`. -/
abbrev WP (c : Dev nD) (p : Pr F) (Q : PUnit.{1} → sProp 𝕄) : sProp 𝕄 :=
  wp frame (wpE (defs₀ (F := F)) 𝒱₀ (c : Thread nD τ) none) Set.univ p Q

section Loops

variable (K : Dev nD × J → ℕ) (c : Dev nD)

/-! ## The ready signals -/

theorem payOf_rdy_dn (r : Fin 15) : payOf m ρ (dn c r.succ) (.rdy r)
    = iprop((∃ f, gotPts c (dv (dn c r.succ)) f) ∗ reached ER (rcvCell c r.succ) 0) := by
  show rdyPay (dn c r.succ) r = _
  unfold rdyPay
  rw [up_dn]

def sigPre (r : Fin 15) : sProp 𝕄 :=
  iprop(dutyTok ER (rdyCell (dn c r.succ) r.succ) 0 false ∗ ∃ f, gotPts c (dv (dn c r.succ)) f)

/-- One ready signal: this device's slot for the signalled device is handed over. -/
theorem wp_sig (Q : PUnit → sProp 𝕄) (r : Fin 15) (n : Dev nD) (hn : n = dn c r.succ) (O : CellTallies nD τ sig Unit) (k : PUnit → Pr F) :
    iprop(records m ρ K ∗ ow c (O + tallyAt (rdyCell (dn c r.succ) r.succ) () 1) ∗ sigPre (F := F) c r)
      ⊢ iprop((ow c O -∗ WP c (k ⟨⟩) Q)
          -∗ WP c (.op (.semSignal ((n : Dev nD), .tc) (rdyS r.succ) (BitVec.toInt 1#32)) k) Q) := by
  subst hn
  unfold ow sigPre
  iintro ⟨#HR, ⟨%W, HO⟩, Htok, Hs⟩ Hk
  ihave #H1 := (records_at m ρ K (dn c r.succ) (some (0, r.succ))) $$ HR
  icases H1 with ⟨#HI, #Hr⟩
  ihave #H2 := (records_at m ρ K c (some (2, r.succ))) $$ HR
  icases H2 with ⟨-, #Hr2⟩
  iapply (Rounds.wp_signal 𝒱₀ ER (Rd m ρ) (c : Thread nD τ) none (dst := (dn c r.succ : Thread nD τ)) (κ := K (dn c r.succ, some (0, r.succ)))
      (d := false) (by rw [duties_at m ρ _ _ (kind_rdy r)]; exact Finset.mem_singleton_self _)
      ((amount_at m ρ _ _ (kind_rdy r) false).trans (by rw [amountBy_rdy]; decide)) () O rfl) $$ [HO Htok Hs]
  · isplitr; · iexact HI
    isplitl [HO]; · iexact HO
    isplitl [Htok]; · iexact Htok
    isplitl [Hs]
    · rw [payload_at m ρ _ _ (kind_rdy r), payOf_rdy_dn]
      isplitl [Hs]; · iexact Hs
      iexact Hr2
    · iexact Hr
  iintro HO
  iapply Hk
  iexists W
  iexact HO

theorem wp_sigs (Q : PUnit → sProp 𝕄) (O : CellTallies nD τ sig Unit) (k : Pr F) : ∀ l : List (Fin 15),
    iprop(records m ρ K ∗ ow c (O + owedRdy c l) ∗ lsep l (sigPre (F := F) c))
      ⊢ iprop((ow c O -∗ WP c k Q) -∗ WP c (sigs c l k) Q)
  | [] => by
    show iprop(_ ∗ ow c (O + 0) ∗ _) ⊢ iprop(_ -∗ WP c k Q)
    rw [add_zero]
    iintro ⟨-, HO, -⟩ Hk
    iapply Hk; iexact HO
  | r :: l => by
    show iprop(_ ∗ ow c (O + (owedRdy c l + tallyAt (rdyCell (dn c r.succ) r.succ) () 1)) ∗ sigPre c r ∗ lsep l (sigPre c)) ⊢ iprop(_ -∗
      WP c (.op (.semSignal ((sigDev c r : Dev nD), .tc) (rdyS r.succ) (BitVec.toInt 1#32)) fun _ => sigs c l k) Q)
    rw [← add_assoc]
    iintro ⟨#HR, HO, Hs, Hl⟩ Hk
    iapply (wp_sig m ρ K c Q r _ (sigDev_eq c r) (O + owedRdy c l) (fun _ => sigs c l k)) $$ [HO Hs]
    · isplitr; · iexact HR
      isplitl [HO]; · iexact HO
      iexact Hs
    iintro HO
    iapply (wp_sigs Q O k l) $$ [HO Hl]
    · isplitr; · iexact HR
      isplitl [HO]; · iexact HO
      iexact Hl
    iexact Hk

/-! ## The weights' copies -/

def startPre (t : Fin 16) : sProp 𝕄 :=
  iprop(dutyTok ER (wdmCell c t) 0 false ∗ (∃ f, wbPts c t f) ∗ wPts c (dv (dn c (po t))) (wmem m ρ c))

theorem wp_start (Q : PUnit → sProp 𝕄) (t : Fin 16) (k : PUnit → Pr F) {hsrc hdst hsem} :
    iprop(records m ρ K ∗ startPre m ρ c t)
      ⊢ iprop((cred (tallyAt (wdmCell c t) () NW) -∗ WP c (k ⟨⟩) Q)
          -∗ WP c (.op (.enqueueDma (wSrc c t) (.here (wDst t)) (.dma (wdmS t)) hsrc hdst hsem) k) Q) := by
  unfold startPre
  iintro ⟨#HR, Htok, ⟨%f, Hb⟩, Hw⟩
  ihave #H1 := (records_at m ρ K c (some (3, t))) $$ HR
  icases H1 with ⟨#HI, #Hr⟩
  have R := Rounds.wp_copy_pointsTo (defs := defs₀ (F := F)) 𝒱₀ ER (Rd m ρ) (c : Thread nD τ) none (Γ := .empty) (src := wSrc c t) (dst := wDst t) (sem := .dma (wdmS t))
    (hsrc := hsrc) (hdst := hdst) (hsem := hsem) (k := k) (Q := Q) (q := fullShare) (fs := wmem m ρ c) (fd := f) (r := 0) (d := false) (κ := K (c, some (3, t)))
    (by rw [duties_at m ρ _ _ (kind_wdm t)]; exact Finset.mem_singleton_self _) () NW (credit_wDst t)
    ((amount_at m ρ _ _ (kind_wdm t) false).trans (amountBy_wdm _ _ _))
    (by
      rw [payload_at m ρ _ _ (kind_wdm t), pointsTo_congr (write_of_read (wDst t).view (read_wSrc_wDst m ρ c t) f), set_wDst, set_wSrc]
      exact BI.Entails.refl _) (Es := Set.univ)
  rw [set_wDst, set_wSrc] at R
  unfold wPts wbPts
  iapply R
  isplitr; · iexact HI
  isplitl [Hw]; · iexact Hw
  isplitl [Hb]; · iexact Hb
  isplitl [Htok]; · iexact Htok
  iexact Hr

theorem wp_starts (Q : PUnit → sProp 𝕄) (k : Pr F) : ∀ l : List (Fin 16),
    iprop(records m ρ K ∗ lsep l (startPre m ρ c))
      ⊢ iprop((lsep (F := F) l (fun t => cred (tallyAt (wdmCell c t) () NW)) -∗ WP c k Q) -∗ WP c (starts c l k) Q)
  | [] => by
    iintro - Hk
    iapply Hk
    rw [lsep_nil]
    iempintro
  | t :: l => by
    show iprop(_ ∗ startPre m ρ c t ∗ lsep l (startPre m ρ c)) ⊢ iprop(_ -∗
      WP c (.op (.enqueueDma (wSrc c t) (.here (wDst t)) (.dma (wdmS t)) _ _ _) fun _ => starts c l k) Q)
    iintro ⟨#HR, Hs, Hl⟩ Hk
    iapply (wp_start m ρ K c Q t (fun _ => starts c l k)) $$ [Hs]
    · isplitr; · iexact HR
      iexact Hs
    iintro Hc
    iapply (wp_starts Q k l) $$ [Hl]
    · isplitr; · iexact HR
      iexact Hl
    iintro Hl
    iapply Hk
    rw [lsep_cons]
    isplitl [Hc] <;> iassumption

/-! ## Waiting on a semaphore of one duty -/

/-- A wait on one of this device's own semaphores that has one duty: what the duty hands over, and the semaphore closed at zero. -/
theorem wp_wait_one (Q : PUnit → sProp 𝕄) {w : TpuEff nD τ sig (Elt F) Λ₀ .tc PUnit} {k' : ℕ} (j : J) {kd : Kd} (hkd : kind (csem j) = kd) (hd : dutiesOf kd = {false})
    (hw : ∀ K : PUnit → sProp 𝕄, wpE (defs₀ (F := F)) 𝒱₀ (c : Thread nD τ) none Set.univ w K = waitSpec (c : Thread nD τ) Set.univ (csem j) k' K)
    (hk' : k' = amountBy N NW kd) {n : ℕ} (hl : levOf kd = n) {O : CellTallies nD τ sig Unit} (hO : Above n O) (k : PUnit → Pr F) :
    iprop(records m ρ K ∗ levAts L lv ∗ ow c O ∗ cred (tallyAt ((c : Thread nD τ), csem j) () k') ∗ atPos ER ((c : Thread nD τ), csem j) 0 ∅ 0)
      ⊢ iprop(((ow c O ∗ payOf m ρ c kd ∗ semVal ((c : Thread nD τ), csem j) 0) -∗ WP c (k ⟨⟩) Q) -∗ WP c (.op w k) Q) := by
  unfold ow
  iintro ⟨#HR, #Hlev, ⟨%W, HO⟩, Hc, Hat⟩ Hk
  ihave #H1 := (records_at m ρ K c j) $$ HR
  icases H1 with ⟨#HI, -⟩
  iapply (Rounds.wp_wait_rest_token 𝒱₀ ER (Rd m ρ) (c : Thread nD τ) none (κ := K (c, j)) hw (Set.mem_univ _) () (O := O) (W := W) (R := 0) (m := 0) (T := ∅)
      (by rw [Nat.zero_add, hk', expect_one m ρ c _ hkd hd])) $$ [HO Hc Hat]
  · isplitr; · iexact HI
    isplitl [Hc]; · iexact Hc
    isplitl [HO]; · iexact HO
    isplitr; · iapply (mayWait_of_above (F := F) c (csem j) (by rw [hkd]; exact hl) hO); iexact Hlev
    iexact Hat
  iintro ⟨HO, Hat, -, Hpay⟩
  ihave Hp := (Entails.of_eq (rest_one m ρ c _ hkd hd)) $$ Hpay
  imod (Rounds.cell_close ER (Rd m ρ) (Set.mem_univ (K (c, j))) (fun h => h) (R := 0 + 1) (duties_later m ρ _)) $$ [Hat] with Hz
  · isplitr; · iexact HI
    iexact Hat
  iapply Hk
  isplitl [HO]; · iexists _; iexact HO
  isplitl [Hp] <;> iassumption

/-- The wait for a slot of weights. -/
theorem wp_wait_wdm (Q : PUnit → sProp 𝕄) (t : Fin 16) (k : PUnit → Pr F) {h h'} :
    iprop(records m ρ K ∗ levAts L lv ∗ ow c 0 ∗ cred (tallyAt (wdmCell c t) () NW) ∗ atPos ER (wdmCell c t) 0 ∅ 0)
      ⊢ iprop(((ow c 0 ∗ (wbPts c t (wbF m ρ c) ∗ wPts c (dv (dn c (po t))) (wmem m ρ c)) ∗ semVal (wdmCell c t) 0) -∗ WP c (k ⟨⟩) Q)
          -∗ WP c (.op (.waitDma2 (wdmS t) (wSrc c t) (wDst t) h h') k) Q) :=
  wp_wait_one m ρ K c Q (some (3, t)) (kind_wdm t) rfl (fun K' => by rw [wpE_waitDma2_eq, credit_wDst]; rfl) (by rw [amountBy_wdm]) rfl (above_zero _) k

/-- The wait for a block. -/
theorem wp_wait_rcv (Q : PUnit → sProp 𝕄) (r : Fin 15) (k : PUnit → Pr F) {h h'} :
    iprop(records m ρ K ∗ levAts L lv ∗ ow c 0 ∗ cred (tallyAt (rcvCell c r.succ) () N) ∗ atPos ER (rcvCell c r.succ) 0 ∅ 0)
      ⊢ iprop(((ow c 0 ∗ gotPts c (dv (dn c r.succ)) (gotF m ρ c) ∗ semVal (rcvCell c r.succ) 0) -∗ WP c (k ⟨⟩) Q)
          -∗ WP c (.op (.waitDma2 (rcvS r.succ) (xGot c r) (xGot c r) h h') k) Q) :=
  wp_wait_one m ρ K c Q (some (2, r.succ)) (kind_rcv r) rfl (fun K' => by rw [wpE_waitDma2_eq, credit_xGot]; rfl) (by rw [amountBy_rcv]) rfl (above_zero _) k

/-- The wait for a send to have left. -/
theorem wp_wait_snd (Q : PUnit → sProp 𝕄) (r : Fin 15) (k : PUnit → Pr F) {h h'} :
    iprop(records m ρ K ∗ levAts L lv ∗ ow c 0 ∗ cred (tallyAt (sndCell c r.succ) () N) ∗ atPos ER (sndCell c r.succ) 0 ∅ 0)
      ⊢ iprop(((ow c 0 ∗ sendPts c (dv (up c r.succ)) (sendF m ρ c) ∗ semVal (sndCell c r.succ) 0) -∗ WP c (k ⟨⟩) Q)
          -∗ WP c (.op (.waitDma2 (sndS r.succ) (xDst c) (xSrc c r) h h') k) Q) :=
  wp_wait_one m ρ K c Q (some (1, r.succ)) (kind_snd r) rfl (fun K' => by rw [wpE_waitDma2_eq, credit_xSrc]; rfl) (by rw [amountBy_snd]) rfl (above_zero _) k

/-- The wait for the slot at an offset to be ready. -/
theorem wp_wait_rdy (Q : PUnit → sProp 𝕄) (r : Fin 15) (O : CellTallies nD τ sig Unit) (hO : Above 1 O) (k : PUnit → Pr F) :
    iprop(records m ρ K ∗ levAts L lv ∗ ow c O ∗ cred (tallyAt (rdyCell c r.succ) () 1) ∗ atPos ER (rdyCell c r.succ) 0 ∅ 0)
      ⊢ iprop(((ow c O ∗ ((∃ f, gotPts (up c r.succ) (dv c) f) ∗ reached ER (rcvCell (up c r.succ) r.succ) 0) ∗ semVal (rdyCell c r.succ) 0) -∗ WP c (k ⟨⟩) Q)
          -∗ WP c (.op (.semWait (rdyS r.succ) (BitVec.toInt 1#32)) k) Q) :=
  wp_wait_one m ρ K c Q (some (0, r.succ)) (kind_rdy r) rfl (fun K' => wpE_semWait_eq (k := 1) 𝒱₀ (c : Thread nD τ) none Set.univ K') (by rw [amountBy_rdy]) rfl hO k

/-! ## Packing and sending -/

/-- Device `c`'s block of `x`, staged. -/
def xPts : sProp 𝕄 := ((c : Thread nD τ).loc cc0_stg0_0) ↦{fullShare} (xstg m ρ c)

/-- Rows of the staged block read, and a slot of the send buffer filled with them. -/
theorem wp_pack (Q : PUnit → sProp 𝕄) (r : Fin 15) (k : PUnit → Pr F) {hl hl' hx hm} :
    iprop(xPts m ρ c ∗ ∃ f, sendPts c (dv (up c r.succ)) f)
      ⊢ iprop(((xPts m ρ c ∗ sendPts c (dv (up c r.succ)) (sendF m ρ c)) -∗ WP c (k ⟨⟩) Q)
          -∗ WP c (.op (.load mX (rX c r).toLoadRect hl) fun v => .op (.load mSend (rSend c r).toLoadRect hl') fun _ =>
              .op (.store mSend (rSend c r) (lead v) Finset.univ hx hm) k) Q) := by
  have hset : (mSend.access (rSend c r)).set = slotSet 256 256 (dv (up c r.succ)) := (View.set_slice_whole _ _).trans (set_rSend c r)
  unfold xPts sendPts
  iintro ⟨Hx, ⟨%f, Hs⟩⟩ Hk
  iapply (wp_load 𝒱₀ (c : Thread nD τ) none Set.univ (m := mX) (Finset.subset_univ _)) $$ Hx
  iintro Hx
  iapply (wp_load_rect 𝒱₀ (c : Thread nD τ) none Set.univ (m := mSend) (r := rSend c r) (le_of_eq hset)) $$ Hs
  iintro Hs
  iapply (wp_store 𝒱₀ (c : Thread nD τ) none Set.univ (m := mSend) (r := rSend c r) (Mk := Finset.univ) (le_of_eq hset)) $$ Hs
  iintro Hs
  rw [read_rX]
  have e : ((mSend.access (rSend c r)).loc (c : Thread nD τ) ↦[slotSet 256 256 (dv (up c r.succ))]{fullShare}
      (mSend.access (rSend c r)).write (Elt F) f (lead (rowsOf (xstg m ρ c) (dv (up c r.succ)))) Finset.univ : sProp 𝕄)
      = (((c : Thread nD τ).loc cc0_scratch0) ↦[slotSet 256 256 (dv (up c r.succ))]{fullShare} sendF m ρ c) :=
    pointsTo_congr (by rw [← hset]; exact write_of_read (mSend.access (rSend c r)) (read_rSend m ρ c c r) f)
  ihave Hs := (Entails.of_eq e) $$ Hs
  iapply Hk
  isplitl [Hx] <;> iassumption

/-- The transfer of a packed slot to the device at an offset. -/
theorem wp_xfer (Q : PUnit → sProp 𝕄) (r : Fin 15) (n : Dev nD) (hn : n = up c r.succ) (O : CellTallies nD τ sig Unit) (k : PUnit → Pr F)
    {hsc : (xDst c : Memref sig (Dev.tc n : Thread nD τ).2.kind .vmem S256x256 .fp8e4m3).view.ref.isScScratch = false} {hsrc hdst hsem} :
    iprop(records m ρ K ∗ sendPts c (dv (up c r.succ)) (sendF m ρ c) ∗ (∃ f, gotPts (up c r.succ) (dv c) f)
        ∗ ow c (O + tallyAt (rcvCell (up c r.succ) r.succ) () N)
        ∗ dutyTok ER (sndCell c r.succ) 0 false ∗ dutyTok ER (rcvCell (up c r.succ) r.succ) 0 false)
      ⊢ iprop(((cred (tallyAt (sndCell c r.succ) () N) ∗ ow c O) -∗ WP c (k ⟨⟩) Q)
          -∗ WP c (.op (.enqueueDma (xSrc c r) (.remote (Dev.tc n) (xDst c) (.dma (sndS r.succ)) hsc) (.dma (rcvS r.succ)) hsrc hdst hsem) k) Q) := by
  subst hn
  unfold ow sendPts gotPts
  iintro ⟨#HR, Hs, ⟨%f, Hg⟩, ⟨%W, HO⟩, Ht1, Ht2⟩ Hk
  ihave #H1 := (records_at m ρ K c (some (1, r.succ))) $$ HR
  icases H1 with ⟨#HI1, #Hr1⟩
  ihave #H2 := (records_at m ρ K (up c r.succ) (some (2, r.succ))) $$ HR
  icases H2 with ⟨#HI2, #Hr2⟩
  have R := Rounds.wp_send_pointsTo (defs := defs₀ (F := F)) 𝒱₀ ER (Rd m ρ) (c : Thread nD τ) none (Γ := .empty) (c' := Dev.tc (up c r.succ)) (src := xSrc c r) (dst := xDst c)
    (hsc := hsc) (sS := .dma (sndS r.succ)) (sem := .dma (rcvS r.succ)) (hsrc := hsrc) (hdst := hdst) (hsem := hsem) (k := k) (Q := Q) (q := fullShare)
    (fs := sendF m ρ c) (fd := f) (r₁ := 0) (r₂ := 0) (d₁ := false) (d₂ := false) (κ₁ := K (c, some (1, r.succ))) (κ₂ := K (up c r.succ, some (2, r.succ)))
    (by rw [duties_at m ρ _ _ (kind_snd r)]; exact Finset.mem_singleton_self _) (by rw [duties_at m ρ _ _ (kind_rcv r)]; exact Finset.mem_singleton_self _)
    () () N (credit_xDst c)
    ((amount_at m ρ _ _ (kind_snd r) false).trans (amountBy_snd _ _ _)) ((amount_at m ρ _ _ (kind_rcv r) false).trans (amountBy_rcv _ _ _))
    O rfl (W := W)
    (by
      rw [payload_at m ρ _ _ (kind_snd r), set_xSrc]
      exact BI.Entails.refl _)
    (by
      rw [payload_at m ρ _ _ (kind_rcv r), pointsTo_congr (write_of_read (xDst c).view (read_xSrc_xDst m ρ c r) f), set_xDst]
      show _ ⊢ rcvPay m ρ (up c r.succ) r
      unfold rcvPay
      rw [dn_up]
      exact BI.Entails.refl _) (Es := Set.univ)
  rw [set_xSrc, set_xDst] at R
  iapply R $$ [Hs Hg HO Ht1 Ht2]
  · isplitr; · iexact HI1
    isplitr; · iexact HI2
    isplitl [Hs]; · iexact Hs
    isplitl [Hg]; · iexact Hg
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

def sendPre (r : Fin 15) : sProp 𝕄 :=
  iprop(cred (tallyAt (rdyCell c r.succ) () 1) ∗ atPos ER (rdyCell c r.succ) 0 ∅ 0
    ∗ dutyTok ER (sndCell c r.succ) 0 false ∗ dutyTok ER (rcvCell (up c r.succ) r.succ) 0 false ∗ ∃ f, sendPts c (dv (up c r.succ)) f)
def sendPost (r : Fin 15) : sProp 𝕄 := iprop(cred (tallyAt (sndCell c r.succ) () N) ∗ semVal (rdyCell c r.succ) 0)

theorem wp_sends (Q : PUnit → sProp 𝕄) (k : Pr F) : ∀ l : List (Fin 15),
    iprop(records m ρ K ∗ levAts L lv ∗ ow c (owedRcv c l) ∗ xPts m ρ c ∗ lsep l (sendPre (F := F) c))
      ⊢ iprop(((ow c 0 ∗ xPts m ρ c ∗ lsep l (sendPost (F := F) c)) -∗ WP c k Q) -∗ WP c (sends c l k) Q)
  | [] => by
    show iprop(_ ∗ _ ∗ ow c 0 ∗ _ ∗ _) ⊢ iprop(_ -∗ WP c k Q)
    rw [lsep_nil, lsep_nil]
    iintro ⟨-, -, HO, Hx, He⟩ Hk
    iapply Hk
    isplitl [HO]; · iexact HO
    isplitl [Hx] <;> iassumption
  | r :: l => by
    rw [lsep_cons, lsep_cons]
    unfold sendPre sends
    iintro ⟨#HR, #Hlev, HO, Hx, ⟨Hc, Hat, Ht1, Ht2, Hs⟩, Hl⟩ Hk
    iapply (wp_pack m ρ c Q r) $$ [Hx Hs]
    · isplitl [Hx] <;> iassumption
    iintro ⟨Hx, Hs⟩
    iapply (wp_wait_rdy m ρ K c Q r _ (above_owedRcv c (r :: l))) $$ [HO Hc Hat]
    · isplitr; · iexact HR
      isplitr; · iexact Hlev
      isplitl [HO]; · iexact HO
      isplitl [Hc] <;> iassumption
    iintro ⟨HO, Hp, Hz⟩
    icases Hp with ⟨Hg, -⟩
    iapply (wp_xfer m ρ K c Q r _ (dstDev_eq c r) (owedRcv c l)) $$ [Hs Hg HO Ht1 Ht2]
    · isplitr; · iexact HR
      isplitl [Hs]; · iexact Hs
      isplitl [Hg]; · iexact Hg
      isplitl [HO]; · iexact HO
      isplitl [Ht1] <;> iassumption
    iintro ⟨Hc, HO⟩
    iapply (wp_sends Q k l) $$ [HO Hx Hl]
    · isplitr; · iexact HR
      isplitr; · iexact Hlev
      isplitl [HO]; · iexact HO
      isplitl [Hx]; · iexact Hx
      iexact Hl
    iintro ⟨HO, Hx, Hl⟩
    iapply Hk
    isplitl [HO]; · iexact HO
    isplitl [Hx]; · iexact Hx
    isplitl [Hc Hz]
    · unfold sendPost
      isplitl [Hc] <;> iassumption
    iexact Hl

/-! ## The barrier -/

theorem wp_barrier (Q : PUnit → sProp 𝕄) (k : Pr F) :
    iprop(records m ρ K ∗ levAts L lv ∗ ow c (owedBar c) ∗ dutyTok ER (barCell (up c 1)) 0 false ∗ dutyTok ER (barCell (dn c 1)) 0 true
        ∗ cred (tallyAt (barCell c) () 2) ∗ atPos ER (barCell c) 0 ∅ 0)
      ⊢ iprop(((ow c (owedRcv c offs) ∗ semVal (barCell c) 0) -∗ WP c k Q) -∗ WP c (barrier c k) Q) := by
  unfold ow barrier
  rw [barDev_fst, barDev_snd]
  iintro ⟨#HR, #Hlev, ⟨%W, HO⟩, Ht1, Ht2, Hc, Hat⟩ Hk
  ihave #H1 := (records_at m ρ K (up c 1) none) $$ HR
  icases H1 with ⟨#HI1, #Hr1⟩
  ihave #H2 := (records_at m ρ K (dn c 1) none) $$ HR
  icases H2 with ⟨#HI2, #Hr2⟩
  ihave #H3 := (records_at m ρ K c none) $$ HR
  icases H3 with ⟨#HI3, -⟩
  iapply (Rounds.wp_signal 𝒱₀ ER (Rd m ρ) (c : Thread nD τ) none (dst := (up c 1 : Thread nD τ)) (κ := K (up c 1, none))
      (d := false) (by rw [duties_at m ρ _ _ kind_bar]; exact Finset.mem_univ _)
      ((amount_at m ρ _ _ kind_bar false).trans (by rw [amountBy_bar]; decide)) () (owedRcv c offs + tallyAt (barCell (dn c 1)) () 1) rfl) $$ [HO Ht1]
  · isplitr; · iexact HI1
    isplitl [HO]; · iexact HO
    isplitl [Ht1]; · iexact Ht1
    isplitr; · rw [payload_at m ρ _ _ kind_bar]; unfold payOf; iempintro
    iexact Hr1
  iintro HO
  iapply (Rounds.wp_signal 𝒱₀ ER (Rd m ρ) (c : Thread nD τ) none (dst := (dn c 1 : Thread nD τ)) (κ := K (dn c 1, none))
      (d := true) (by rw [duties_at m ρ _ _ kind_bar]; exact Finset.mem_univ _)
      ((amount_at m ρ _ _ kind_bar true).trans (by rw [amountBy_bar]; decide)) () (owedRcv c offs) rfl) $$ [HO Ht2]
  · isplitr; · iexact HI2
    isplitl [HO]; · iexact HO
    isplitl [Ht2]; · iexact Ht2
    isplitr; · rw [payload_at m ρ _ _ kind_bar]; unfold payOf; iempintro
    iexact Hr2
  iintro HO
  iapply (Rounds.wp_wait_rest_token 𝒱₀ ER (Rd m ρ) (c : Thread nD τ) none (κ := K (c, none)) (wpE_semWait_eq 𝒱₀ (c : Thread nD τ) none Set.univ)
      (Set.mem_univ _) () (O := owedRcv c offs) (W := W) (R := 0) (m := 0) (T := ∅) (by rw [expect_bar]; decide)) $$ [HO Hc Hat]
  · isplitr; · iexact HI3
    isplitl [Hc]; · iexact Hc
    isplitl [HO]; · iexact HO
    isplitr; · iapply (mayWait_of_above (F := F) c (.reg barS) (n := 1) (by rw [kind_bar]; rfl) (above_owedRcv c offs)); iexact Hlev
    iexact Hat
  iintro ⟨HO, Hat, -, -⟩
  imod (Rounds.cell_close ER (Rd m ρ) (Set.mem_univ (K (c, none))) (fun h => h) (R := 0 + 1) (duties_later m ρ _)) $$ [Hat] with Hz
  · isplitr; · iexact HI3
    iexact Hat
  iapply Hk
  isplitl [HO]; · iexists _; iexact HO
  iexact Hz

/-! ## The own block -/

theorem wp_own (Q : PUnit → sProp 𝕄) (k : Pr F) :
    iprop(xPts m ρ c ∗ ∃ f, gotPts c (dv c) f)
      ⊢ iprop(((xPts m ρ c ∗ gotPts c (dv c) (gotF m ρ c)) -∗ WP c k Q) -∗ WP c (own c k) Q) := by
  have hset : (mGot.access (rGotOwn c)).set = slotSet 256 256 (dv c) := (View.set_slice_whole _ _).trans (set_rGotOwn c)
  unfold xPts gotPts own
  iintro ⟨Hx, ⟨%f, Hs⟩⟩ Hk
  iapply (wp_load 𝒱₀ (c : Thread nD τ) none Set.univ (m := mX) (Finset.subset_univ _)) $$ Hx
  iintro Hx
  iapply (wp_load_rect 𝒱₀ (c : Thread nD τ) none Set.univ (m := mGot) (r := rGotOwn c) (le_of_eq hset)) $$ Hs
  iintro Hs
  iapply (wp_store 𝒱₀ (c : Thread nD τ) none Set.univ (m := mGot) (r := rGotOwn c) (Mk := Finset.univ) (le_of_eq hset)) $$ Hs
  iintro Hs
  rw [read_rXown]
  have e : ((mGot.access (rGotOwn c)).loc (c : Thread nD τ) ↦[slotSet 256 256 (dv c)]{fullShare}
      (mGot.access (rGotOwn c)).write (Elt F) f (lead (rowsOf (xstg m ρ c) (dv c))) Finset.univ : sProp 𝕄)
      = (((c : Thread nD τ).loc cc0_scratch1) ↦[slotSet 256 256 (dv c)]{fullShare} gotF m ρ c) :=
    pointsTo_congr (by rw [← hset]; exact write_of_read (mGot.access (rGotOwn c)) (read_rGotOwn m ρ c c) f)
  ihave Hs := (Entails.of_eq e) $$ Hs
  iapply Hk
  isplitl [Hx] <;> iassumption

/-! ## Narrowing the weights -/

def castPre (t : Fin 16) : sProp 𝕄 :=
  iprop(cred (tallyAt (wdmCell c t) () NW) ∗ atPos ER (wdmCell c t) 0 ∅ 0 ∗ ∃ f, wePts c t f)
def castPost (t : Fin 16) : sProp 𝕄 :=
  iprop(wePts c t (weF m ρ c) ∗ wbPts c t (wbF m ρ c) ∗ wPts c (dv (dn c (po t))) (wmem m ρ c) ∗ semVal (wdmCell c t) 0)

theorem wp_narrow (Q : PUnit → sProp 𝕄) (t : Fin 16) (k : PUnit → Pr F) {hl hl' hx hm} :
    iprop(wbPts c t (wbF m ρ c) ∗ ∃ f, wePts c t f)
      ⊢ iprop(((wbPts c t (wbF m ρ c) ∗ wePts c t (weF m ρ c)) -∗ WP c (k ⟨⟩) Q)
          -∗ WP c (.op (.load mWb (rSlot t).toLoadRect hl) fun v => .op (.load mWe (rSlot t).toLoadRect hl') fun _ =>
              .op (.store mWe (rSlot t) (narrow v) Finset.univ hx hm) k) Q) := by
  have hset : (mWe.access (rSlot t)).set = slotSet 256 2048 t := (View.set_slice_whole _ _).trans (set_rSlot t)
  have hset' : (mWb.access (rSlot t)).set = slotSet 256 2048 t := (View.set_slice_whole _ _).trans (set_rSlot t)
  unfold wbPts wePts
  iintro ⟨Hx, ⟨%f, Hs⟩⟩ Hk
  iapply (wp_load_rect 𝒱₀ (c : Thread nD τ) none Set.univ (m := mWb) (r := rSlot t) (le_of_eq hset')) $$ Hx
  iintro Hx
  iapply (wp_load_rect 𝒱₀ (c : Thread nD τ) none Set.univ (m := mWe) (r := rSlot t) (le_of_eq hset)) $$ Hs
  iintro Hs
  iapply (wp_store 𝒱₀ (c : Thread nD τ) none Set.univ (m := mWe) (r := rSlot t) (Mk := Finset.univ) (le_of_eq hset)) $$ Hs
  iintro Hs
  rw [show (mWb.access (rSlot t)).read (Elt F) (wbF m ρ c) = wblk m ρ c t from read_wb m ρ c t]
  have e : ((mWe.access (rSlot t)).loc (c : Thread nD τ) ↦[slotSet 256 2048 t]{fullShare}
      (mWe.access (rSlot t)).write (Elt F) f (narrow (wblk m ρ c t)) Finset.univ : sProp 𝕄)
      = (((c : Thread nD τ).loc cc0_scratch3) ↦[slotSet 256 2048 t]{fullShare} weF m ρ c) :=
    pointsTo_congr (by rw [← hset]; exact write_of_read (mWe.access (rSlot t)) (read_we' m ρ c t) f)
  ihave Hs := (Entails.of_eq e) $$ Hs
  iapply Hk
  isplitl [Hx] <;> iassumption

theorem wp_casts (Q : PUnit → sProp 𝕄) (k : Pr F) : ∀ l : List (Fin 16),
    iprop(records m ρ K ∗ levAts L lv ∗ ow c 0 ∗ lsep l (castPre (F := F) c))
      ⊢ iprop(((ow c 0 ∗ lsep l (castPost m ρ c)) -∗ WP c k Q) -∗ WP c (casts c l k) Q)
  | [] => by
    show iprop(_ ∗ _ ∗ ow c 0 ∗ _) ⊢ iprop(_ -∗ WP c k Q)
    rw [lsep_nil, lsep_nil]
    iintro ⟨-, -, HO, He⟩ Hk
    iapply Hk
    isplitl [HO] <;> iassumption
  | t :: l => by
    rw [lsep_cons, lsep_cons]
    unfold castPre casts
    iintro ⟨#HR, #Hlev, HO, ⟨Hc, Hat, Hs⟩, Hl⟩ Hk
    iapply (wp_wait_wdm m ρ K c Q t) $$ [HO Hc Hat]
    · isplitr; · iexact HR
      isplitr; · iexact Hlev
      isplitl [HO]; · iexact HO
      isplitl [Hc] <;> iassumption
    iintro ⟨HO, Hp, Hz⟩
    icases Hp with ⟨Hb, Hw⟩
    iapply (wp_narrow m ρ c Q t) $$ [Hb Hs]
    · isplitl [Hb] <;> iassumption
    iintro ⟨Hb, Hs⟩
    iapply (wp_casts Q k l) $$ [HO Hl]
    · isplitr; · iexact HR
      isplitr; · iexact Hlev
      isplitl [HO]; · iexact HO
      iexact Hl
    iintro ⟨HO, Hl⟩
    iapply Hk
    isplitl [HO]; · iexact HO
    isplitl [Hs Hb Hw Hz]
    · unfold castPost
      isplitl [Hs]; · iexact Hs
      isplitl [Hb]; · iexact Hb
      isplitl [Hw] <;> iassumption
    iexact Hl

/-! ## The products -/

/-- The product of device `s`'s block with the weights of step `t`. -/
def term (s : Dev nD) (t : Fin 16) : FVec F S256x2048 .f32 := prod (lead (rowsOf (xstg m ρ s) (dv c))) (narrow (wblk m ρ c t))

/-- A block and a slot of weights read. -/
theorem wp_pair (Q : PUnit → sProp 𝕄) (o t : Fin 16) (k : FVec F S256x2048 .f32 → Pr F) {hl hl'} :
    iprop(gotPts c (dv (dn c o)) (gotF m ρ c) ∗ wePts c t (weF m ρ c))
      ⊢ iprop(((gotPts c (dv (dn c o)) (gotF m ρ c) ∗ wePts c t (weF m ρ c)) -∗ WP c (k (term m ρ c (dn c o) t)) Q)
          -∗ WP c (.op (.load mGot (rGot c o).toLoadRect hl) fun a => .op (.load mWe (rSlot t).toLoadRect hl') fun b => k (prod a b)) Q) := by
  have hset : (mGot.access (rGot c o)).set = slotSet 256 256 (dv (dn c o)) := (View.set_slice_whole _ _).trans (set_rGot c o)
  have hset' : (mWe.access (rSlot t)).set = slotSet 256 2048 t := (View.set_slice_whole _ _).trans (set_rSlot t)
  unfold gotPts wePts term
  iintro ⟨Hg, Hw⟩ Hk
  iapply (wp_load_rect 𝒱₀ (c : Thread nD τ) none Set.univ (m := mGot) (r := rGot c o) (le_of_eq hset)) $$ Hg
  iintro Hg
  iapply (wp_load_rect 𝒱₀ (c : Thread nD τ) none Set.univ (m := mWe) (r := rSlot t) (le_of_eq hset')) $$ Hw
  iintro Hw
  rw [show (mGot.access (rGot c o)).read (Elt F) (gotF m ρ c) = lead (rowsOf (xstg m ρ (dn c o)) (dv c)) from read_rGot m ρ c c o, read_we' m ρ c t]
  iapply Hk
  isplitl [Hg] <;> iassumption

/-- The running sum over the steps that wait. -/
def accR : List (Fin 16 × Fin 15) → FVec F S256x2048 .f32 → FVec F S256x2048 .f32
  | [], acc => acc
  | p :: l, acc => accR l (addf acc (term m ρ c (dn c p.2.succ) p.1))

def recvPre (p : Fin 16 × Fin 15) : sProp 𝕄 :=
  iprop(cred (tallyAt (rcvCell c p.2.succ) () N) ∗ atPos ER (rcvCell c p.2.succ) 0 ∅ 0 ∗ wePts c p.1 (weF m ρ c))
def recvPost (p : Fin 16 × Fin 15) : sProp 𝕄 :=
  iprop(gotPts c (dv (dn c p.2.succ)) (gotF m ρ c) ∗ wePts c p.1 (weF m ρ c) ∗ semVal (rcvCell c p.2.succ) 0)

theorem wp_recvs (Q : PUnit → sProp 𝕄) (k : FVec F S256x2048 .f32 → Pr F) : ∀ (l : List (Fin 16 × Fin 15)) (acc : FVec F S256x2048 .f32),
    iprop(records m ρ K ∗ levAts L lv ∗ ow c 0 ∗ lsep l (recvPre m ρ c))
      ⊢ iprop(((ow c 0 ∗ lsep l (recvPost m ρ c)) -∗ WP c (k (accR m ρ c l acc)) Q) -∗ WP c (recvs c l acc k) Q)
  | [], acc => by
    show iprop(_ ∗ _ ∗ ow c 0 ∗ _) ⊢ iprop(_ -∗ WP c (k acc) Q)
    rw [lsep_nil, lsep_nil]
    iintro ⟨-, -, HO, He⟩ Hk
    iapply Hk
    isplitl [HO] <;> iassumption
  | (t, r) :: l, acc => by
    rw [lsep_cons, lsep_cons]
    unfold recvPre recvs
    iintro ⟨#HR, #Hlev, HO, ⟨Hc, Hat, Hw⟩, Hl⟩ Hk
    iapply (wp_wait_rcv m ρ K c Q r) $$ [HO Hc Hat]
    · isplitr; · iexact HR
      isplitr; · iexact Hlev
      isplitl [HO]; · iexact HO
      isplitl [Hc] <;> iassumption
    iintro ⟨HO, Hp, Hz⟩
    iapply (wp_pair m ρ c Q r.succ t (fun v => recvs c l (addf acc v) k)) $$ [Hp Hw]
    · isplitl [Hp] <;> iassumption
    iintro ⟨Hp, Hw⟩
    iapply (wp_recvs Q k l _) $$ [HO Hl]
    · isplitr; · iexact HR
      isplitr; · iexact Hlev
      isplitl [HO]; · iexact HO
      iexact Hl
    iintro ⟨HO, Hl⟩
    iapply Hk
    isplitl [HO]; · iexact HO
    isplitl [Hp Hw Hz]
    · unfold recvPost
      isplitl [Hp]; · iexact Hp
      isplitl [Hw] <;> iassumption
    iexact Hl

/-! ## The last waits -/

def lastPre (r : Fin 15) : sProp 𝕄 := iprop(cred (tallyAt (sndCell c r.succ) () N) ∗ atPos ER (sndCell c r.succ) 0 ∅ 0)
def lastPost (r : Fin 15) : sProp 𝕄 := iprop(sendPts c (dv (up c r.succ)) (sendF m ρ c) ∗ semVal (sndCell c r.succ) 0)

theorem wp_lasts (Q : PUnit → sProp 𝕄) (k : Pr F) : ∀ l : List (Fin 15),
    iprop(records m ρ K ∗ levAts L lv ∗ ow c 0 ∗ lsep l (lastPre (F := F) c))
      ⊢ iprop(((ow c 0 ∗ lsep l (lastPost m ρ c)) -∗ WP c k Q) -∗ WP c (lasts c l k) Q)
  | [] => by
    show iprop(_ ∗ _ ∗ ow c 0 ∗ _) ⊢ iprop(_ -∗ WP c k Q)
    rw [lsep_nil, lsep_nil]
    iintro ⟨-, -, HO, He⟩ Hk
    iapply Hk
    isplitl [HO] <;> iassumption
  | r :: l => by
    rw [lsep_cons, lsep_cons]
    unfold lastPre lasts
    iintro ⟨#HR, #Hlev, HO, ⟨Hc, Hat⟩, Hl⟩ Hk
    iapply (wp_wait_snd m ρ K c Q r) $$ [HO Hc Hat]
    · isplitr; · iexact HR
      isplitr; · iexact Hlev
      isplitl [HO]; · iexact HO
      isplitl [Hc] <;> iassumption
    iintro ⟨HO, Hp, Hz⟩
    iapply (wp_lasts Q k l) $$ [HO Hl]
    · isplitr; · iexact HR
      isplitr; · iexact Hlev
      isplitl [HO]; · iexact HO
      iexact Hl
    iintro ⟨HO, Hl⟩
    iapply Hk
    isplitl [HO]; · iexact HO
    isplitl [Hp Hz]
    · unfold lastPost
      isplitl [Hp] <;> iassumption
    iexact Hl

end Loops

end Cert.Proof
-- ==== Proof.Body.lean ====
module

public import proofs.«01_k».proof.Proof.Segs
public import Idealize.ShloMosaic.Lib.Tactic

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws
open Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! The whole body, from the loops. -/

section Prog

variable (K : Dev nD × J → ℕ) (c : Dev nD)

/-! ## The first product and the result -/

theorem wp_first (Q : PUnit → sProp 𝕄) (k : FVec F S256x2048 .f32 → Pr F) :
    iprop(gotPts c (dv (dn c 0)) (gotF m ρ c) ∗ wePts c 0 (weF m ρ c))
      ⊢ iprop(((gotPts c (dv (dn c 0)) (gotF m ρ c) ∗ wePts c 0 (weF m ρ c)) -∗ WP c (k (term m ρ c (dn c 0) 0)) Q) -∗ WP c (first c k) Q) := by
  unfold first
  exact wp_pair m ρ c Q 0 0 k

/-- The scale staged in a buffer of one element. -/
abbrev rOne : Rect S1 := Rect.unit (s := S1) ![0] S1.size inb_S1_S1_0
abbrev rAll : Rect S256x2048 := Rect.unit (s := S256x2048) ![0, 0] S256x2048.size inb_S256x2048_S256x2048_0_0
def sx : Elt F .f32 := (mSx.access rOne).read (Elt F) (sxstg m ρ c) (Shape.Idx.first (numel1_S1.symm ▸ Nat.one_pos))
def sw : Elt F .f32 := (mSw.access rOne).read (Elt F) (swstg m ρ c) (Shape.Idx.first (numel1_S1.symm ▸ Nat.one_pos))

def sxPts : sProp 𝕄 := ((c : Thread nD τ).loc cc0_stg1_0) ↦{fullShare} (sxstg m ρ c)
def swPts : sProp 𝕄 := ((c : Thread nD τ).loc cc0_stg2_0) ↦{fullShare} (swstg m ρ c)
def outPts (f : Buf (Elt F) ((c : Thread nD τ).loc cc0_stg3_0)) : sProp 𝕄 := ((c : Thread nD τ).loc cc0_stg3_0) ↦{fullShare} f

theorem wp_write (Q : PUnit → sProp 𝕄) (acc : FVec F S256x2048 .f32) (k : Pr F) :
    iprop(sxPts m ρ c ∗ swPts m ρ c ∗ ∃ f, outPts (F := F) c f)
      ⊢ iprop(((sxPts m ρ c ∗ swPts m ρ c ∗ outPts c (scaled acc (sx m ρ c) (sw m ρ c))) -∗ WP c k Q) -∗ WP c (write acc k) Q) := by
  have hz : (![0, 0] : Fin S256x2048.rank → ℕ) = fun _ => 0 := by funext i; revert i; decide
  unfold sx sw sxPts swPts outPts write smemLoad smemLoadElt
  simp only [Prog.bind_op, Prog.bind_ret]
  iintro ⟨H1, H2, ⟨%f, Ho⟩⟩ Hk
  iapply (wp_load_rect 𝒱₀ (c : Thread nD τ) none Set.univ (m := mSx) (r := rOne) (Finset.subset_univ _)) $$ H1
  iintro H1
  iapply (wp_load_rect 𝒱₀ (c : Thread nD τ) none Set.univ (m := mSw) (r := rOne) (Finset.subset_univ _)) $$ H2
  iintro H2
  iapply (wp_load_rect 𝒱₀ (c : Thread nD τ) none Set.univ (m := mO) (r := rAll) (Finset.subset_univ _)) $$ Ho
  iintro Ho
  iapply (wp_store 𝒱₀ (c : Thread nD τ) none Set.univ (m := mO) (r := rAll) (Mk := Finset.univ) (Finset.subset_univ _)) $$ Ho
  iintro Ho
  have e : ∀ w, ((mO.access rAll).loc (c : Thread nD τ) ↦{fullShare} (mO.access rAll).write (Elt F) f w Finset.univ : sProp 𝕄)
      = (((c : Thread nD τ).loc cc0_stg3_0) ↦{fullShare} w) := fun w =>
    congrArg (fun g => (((c : Thread nD τ).loc cc0_stg3_0) ↦{fullShare} g : sProp 𝕄)) (Memref.write_access_unit_zero_univ (Elt F) cc0_stg3_0 hz _ f w)
  ihave Ho := (Entails.of_eq (e _)) $$ Ho
  iapply Hk
  isplitl [H1]; · iexact H1
  isplitl [H2]; · iexact H2
  iexact Ho

/-! ## Lists -/

theorem sep_swap (P Q R S : sProp 𝕄) : iprop((P ∗ Q) ∗ R ∗ S) ⊢ iprop((P ∗ R) ∗ Q ∗ S) := by
  iintro ⟨⟨H1, H2⟩, H3, H4⟩
  isplitl [H1 H3]
  · isplitl [H1] <;> iassumption
  isplitl [H2] <;> iassumption

theorem lsep_sep {α : Type} (Φ Ψ : α → sProp 𝕄) : ∀ l : List α, lsep l (fun a => iprop(Φ a ∗ Ψ a)) = iprop(lsep l Φ ∗ lsep l Ψ)
  | [] => by rw [lsep_nil, lsep_nil, lsep_nil]; exact (equiv_iff.mp BI.emp_sep).symm
  | a :: l => by
    rw [lsep_cons, lsep_cons, lsep_cons, lsep_sep Φ Ψ l]
    exact equiv_iff.mp ⟨sep_swap _ _ _ _, sep_swap _ _ _ _⟩

theorem lsep_steps (Φ : Fin 16 → sProp 𝕄) : lsep steps Φ = iprop(Φ 0 ∗ lsep rsteps fun p => Φ p.1) := rfl
theorem lsep_offs (Φ : Fin 15 → sProp 𝕄) : lsep offs Φ = lsep rsteps fun p => Φ p.2 := rfl

/-! ## The body -/

/-- What the body starts from: what it owes, its credits, positions and tokens, and its buffers by slots. -/
def bodyIn : sProp 𝕄 :=
  iprop(lsep offs (sigPre (F := F) c) ∗ lsep steps (startPre m ρ c)
    ∗ (dutyTok ER (barCell (up c 1)) 0 false ∗ dutyTok ER (barCell (dn c 1)) 0 true ∗ cred (tallyAt (barCell c) () 2) ∗ atPos ER (barCell c) 0 ∅ 0)
    ∗ lsep offs (sendPre (F := F) c) ∗ (∃ f, gotPts c (dv c) f)
    ∗ (lsep (F := F) steps (fun t => atPos ER (wdmCell c t) 0 ∅ 0) ∗ lsep (F := F) steps (fun t => iprop(∃ f, wePts c t f)))
    ∗ (lsep (F := F) offs (fun r => cred (tallyAt (rcvCell c r.succ) () N)) ∗ lsep (F := F) offs (fun r => atPos ER (rcvCell c r.succ) 0 ∅ 0))
    ∗ lsep (F := F) offs (fun r => atPos ER (sndCell c r.succ) 0 ∅ 0)
    ∗ xPts m ρ c ∗ (sxPts m ρ c ∗ swPts m ρ c ∗ ∃ f, outPts (F := F) c f))

/-- The result on device `c`. -/
def outF : FVec F S256x2048 .f32 := scaled (accR m ρ c rsteps (term m ρ c (dn c 0) 0)) (sx m ρ c) (sw m ρ c)

/-- What it ends with. -/
def bodyOut : sProp 𝕄 :=
  iprop((lsep (F := F) offs (fun r => semVal (rdyCell c r.succ) 0) ∗ lsep (F := F) offs (fun r => semVal (sndCell c r.succ) 0)
      ∗ lsep (F := F) offs (fun r => semVal (rcvCell c r.succ) 0) ∗ lsep (F := F) steps (fun t => semVal (wdmCell c t) 0) ∗ semVal (barCell c) 0)
    ∗ (lsep offs (fun r => sendPts c (dv (up c r.succ)) (sendF m ρ c)) ∗ gotPts c (dv (dn c 0)) (gotF m ρ c) ∗ lsep offs (fun r => gotPts c (dv (dn c r.succ)) (gotF m ρ c))
      ∗ lsep steps (fun t => wbPts c t (wbF m ρ c)) ∗ lsep steps (fun t => wePts c t (weF m ρ c)))
    ∗ lsep steps (fun t => wPts c (dv (dn c (po t))) (wmem m ρ c))
    ∗ xPts m ρ c ∗ (sxPts m ρ c ∗ swPts m ρ c ∗ outPts c (outF m ρ c)))

theorem wp_prog (Q : PUnit → sProp 𝕄) :
    iprop(records m ρ K ∗ levAts L lv ∗ ow c (O₀ c) ∗ bodyIn m ρ c)
      ⊢ iprop(((ow c 0 ∗ bodyOut m ρ c) -∗ Q ⟨⟩) -∗ WP c prog Q) := by
  unfold prog
  rw [show ∀ k : Dev nD → Pr F, WP c (.op .deviceId k) Q = WP c (k c) Q from fun k => wp_deviceId 𝒱₀ (c : Thread nD τ) none Set.univ]
  unfold bodyIn O₀
  iintro ⟨#HR, #Hlev, HO, Hsig, Hst, ⟨Hb1, Hb2, Hb3, Hb4⟩, Hsend, Hown, ⟨Hwa, Hwe⟩, ⟨Hrc, Hra⟩, Hsa, Hx, Hout⟩ Hk
  iapply (wp_sigs m ρ K c Q (owedBar c) _ offs) $$ [HO Hsig]
  · isplitr; · iexact HR
    isplitl [HO] <;> iassumption
  iintro HO
  iapply (wp_starts m ρ K c Q _ steps) $$ [Hst]
  · isplitr; · iexact HR
    iexact Hst
  iintro Hwc
  iapply (wp_barrier m ρ K c Q _) $$ [HO Hb1 Hb2 Hb3 Hb4]
  · isplitr; · iexact HR
    isplitr; · iexact Hlev
    isplitl [HO]; · iexact HO
    isplitl [Hb1]; · iexact Hb1
    isplitl [Hb2]; · iexact Hb2
    isplitl [Hb3] <;> iassumption
  iintro ⟨HO, Hbz⟩
  iapply (wp_sends m ρ K c Q _ offs) $$ [HO Hx Hsend]
  · isplitr; · iexact HR
    isplitr; · iexact Hlev
    isplitl [HO]; · iexact HO
    isplitl [Hx] <;> iassumption
  iintro ⟨HO, Hx, Hsend⟩
  unfold sendPost
  ihave Hsend := (Entails.of_eq (lsep_sep _ _ offs)) $$ Hsend
  icases Hsend with ⟨Hsc, Hrz⟩
  iapply (wp_own m ρ c Q _) $$ [Hx Hown]
  · isplitl [Hx] <;> iassumption
  iintro ⟨Hx, Hown⟩
  iapply (wp_casts m ρ K c Q _ steps) $$ [HO Hwc Hwa Hwe]
  · isplitr; · iexact HR
    isplitr; · iexact Hlev
    isplitl [HO]; · iexact HO
    unfold castPre
    rw [lsep_sep, lsep_sep]
    isplitl [Hwc]; · iexact Hwc
    isplitl [Hwa] <;> iassumption
  iintro ⟨HO, Hw⟩
  unfold castPost
  ihave Hw := (Entails.of_eq ((lsep_sep _ _ steps).trans (congrArg _ ((lsep_sep _ _ steps).trans (congrArg _ (lsep_sep _ _ steps)))))) $$ Hw
  icases Hw with ⟨Hwe, Hwb, Hwm, Hwz⟩
  ihave Hwe := (Entails.of_eq (lsep_steps _)) $$ Hwe
  icases Hwe with ⟨Hwe0, Hwe⟩
  ihave Hown := (Entails.of_eq (congrArg (fun d => gotPts (F := F) c (dv d) (gotF m ρ c)) (dn_zero c).symm)) $$ Hown
  iapply (wp_first m ρ c Q _) $$ [Hown Hwe0]
  · isplitl [Hown] <;> iassumption
  iintro ⟨Hown, Hwe0⟩
  iapply (wp_recvs m ρ K c Q _ rsteps _) $$ [HO Hrc Hra Hwe]
  · isplitr; · iexact HR
    isplitr; · iexact Hlev
    isplitl [HO]; · iexact HO
    unfold recvPre
    rw [lsep_sep, lsep_sep]
    isplitl [Hrc]; · rw [← lsep_offs fun r => cred (tallyAt (rcvCell c r.succ) () N)]; iexact Hrc
    isplitl [Hra]; · rw [← lsep_offs fun r => atPos ER (rcvCell c r.succ) 0 ∅ 0]; iexact Hra
    iexact Hwe
  iintro ⟨HO, Hr⟩
  unfold recvPost
  ihave Hr := (Entails.of_eq ((lsep_sep _ _ rsteps).trans (congrArg _ (lsep_sep _ _ rsteps)))) $$ Hr
  icases Hr with ⟨Hg, Hwe, Hcz⟩
  iapply (wp_write m ρ c Q _ _) $$ Hout
  iintro Hout
  iapply (wp_lasts m ρ K c Q _ offs) $$ [HO Hsc Hsa]
  · isplitr; · iexact HR
    isplitr; · iexact Hlev
    isplitl [HO]; · iexact HO
    unfold lastPre
    rw [lsep_sep]
    isplitl [Hsc] <;> iassumption
  iintro ⟨HO, Hl⟩
  unfold lastPost
  ihave Hl := (Entails.of_eq (lsep_sep _ _ offs)) $$ Hl
  icases Hl with ⟨Hs, Hsz⟩
  unfold WP
  rw [wp_ret]; imodintro
  iapply Hk
  isplitl [HO]; · iexact HO
  unfold bodyOut
  isplitl [Hrz Hsz Hcz Hwz Hbz]
  · isplitl [Hrz]; · iexact Hrz
    isplitl [Hsz]; · iexact Hsz
    isplitl [Hcz]; · rw [lsep_offs]; iexact Hcz
    isplitl [Hwz] <;> iassumption
  isplitl [Hs Hown Hg Hwb Hwe0 Hwe]
  · isplitl [Hs]; · iexact Hs
    isplitl [Hown]; · iexact Hown
    isplitl [Hg]; · rw [lsep_offs]; iexact Hg
    isplitl [Hwb]; · iexact Hwb
    rw [lsep_steps]
    isplitl [Hwe0] <;> iassumption
  isplitl [Hwm]; · iexact Hwm
  isplitl [Hx]; · iexact Hx
  unfold outF
  iexact Hout

end Prog

end Cert.Proof
-- ==== Proof.Deal.lean ====
module

public import proofs.«01_k».proof.Proof.Body
public import Idealize.ShloMosaic.Lib.Ring
public import Idealize.ShloMosaic.Lib.Tactic

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws
open Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! What the launch gives each device, sorted into what the body takes; what the body leaves, put together again. -/

/-! ## Over all indices, as lists -/

theorem lsep_eq {α : Type} (Φ : α → sProp 𝕄) : ∀ l : List α, lsep l Φ = bigSepL l Φ
  | [] => rfl
  | a :: l => by rw [lsep_cons, lsep_eq Φ l, bigSepL_cons]; rfl

theorem lsep_map {α β : Type} (g : α → β) (Φ : β → sProp 𝕄) : ∀ l : List α, lsep (l.map g) Φ = lsep l (fun a => Φ (g a))
  | [] => rfl
  | a :: l => by rw [List.map_cons, lsep_cons, lsep_cons, lsep_map g Φ l]

theorem lsep_mono {α : Type} {Φ Ψ : α → sProp 𝕄} (h : ∀ a, Φ a ⊢ Ψ a) : ∀ l : List α, lsep l Φ ⊢ lsep l Ψ
  | [] => BI.Entails.refl _
  | a :: l => by
    rw [lsep_cons, lsep_cons]
    iintro ⟨H1, H2⟩
    isplitl [H1]; · iapply (h a); iexact H1
    iapply (lsep_mono h l); iexact H2

theorem all_steps (Φ : Fin 16 → sProp 𝕄) : bigSep Finset.univ Φ = lsep steps Φ := by
  rw [lsep_eq]; exact bigSep_univ_eq_bigSepL steps (by decide) (by decide) Φ

theorem all_offs (Φ : Fin 16 → sProp 𝕄) : bigSep Finset.univ Φ = iprop(Φ 0 ∗ lsep offs fun r => Φ r.succ) := by
  rw [← lsep_map Fin.succ Φ offs, ← lsep_cons, lsep_eq]
  exact bigSep_univ_eq_bigSepL (0 :: offs.map Fin.succ) (by decide) (by decide) Φ

section Shifts

variable (c : Dev nD)

def ofInj (f : Fin 16 → Fin 16) (h : Function.Injective f) : Fin 16 ≃ Fin 16 := Equiv.ofBijective f (Finite.injective_iff_bijective.mp h)

theorem up_inj : Function.Injective fun o : Fin 16 => dv (up c o) := fun a b h => by
  have h' : (c.val + a.val) % 16 = (c.val + b.val) % 16 := congrArg Fin.val h
  have := a.isLt; have := b.isLt; exact Fin.ext (by omega)
theorem dn_inj : Function.Injective fun o : Fin 16 => dv (dn c o) := fun a b h => by
  have h' : (c.val + (16 - a.val)) % 16 = (c.val + (16 - b.val)) % 16 := congrArg Fin.val h
  have := a.isLt; have := b.isLt; exact Fin.ext (by omega)
theorem po_inj : Function.Injective po := by decide

theorem by_up (Φ : Fin 16 → sProp 𝕄) : bigSep Finset.univ Φ = iprop(Φ (dv c) ∗ lsep offs fun r => Φ (dv (up c r.succ))) := by
  rw [bigSep_univ_equiv (ofInj _ (up_inj c)) Φ, all_offs]
  show iprop(Φ (dv (up c 0)) ∗ _) = _
  rw [up_zero]; rfl
theorem by_dn (Φ : Fin 16 → sProp 𝕄) : bigSep Finset.univ Φ = iprop(Φ (dv c) ∗ lsep offs fun r => Φ (dv (dn c r.succ))) := by
  rw [bigSep_univ_equiv (ofInj _ (dn_inj c)) Φ, all_offs]
  show iprop(Φ (dv (dn c 0)) ∗ _) = _
  rw [dn_zero]; rfl
theorem by_po (Φ : Fin 16 → sProp 𝕄) : bigSep Finset.univ Φ = lsep steps fun t => Φ (dv (dn c (po t))) := by
  rw [bigSep_univ_equiv (ofInj _ ((dn_inj c).comp po_inj)) Φ, all_steps]; rfl

theorem sep_flip (P Q : sProp 𝕄) : iprop(P ∗ Q) ⊢ iprop(Q ∗ P) := by
  iintro ⟨H1, H2⟩
  isplitl [H2] <;> iassumption

/-- Over every semaphore of the body. -/
theorem over_J (Φ : J → sProp 𝕄) : bigSep Finset.univ Φ = iprop(Φ none ∗ bigSep Finset.univ fun p => Φ (some p)) := by
  rw [bigSep_univ_equiv (Equiv.optionEquivSumPUnit (Fin 4 × Fin 16)).symm Φ, bigSep_univ_sum]
  refine (equiv_iff.mp ⟨sep_flip _ _, sep_flip _ _⟩).trans ?_
  refine congrArg₂ (fun a b => iprop(a ∗ b)) ?_ rfl
  exact bigSep_univ_eq_bigSepL [PUnit.unit.{1}] rfl (List.nodup_singleton _) _

theorem over_four (Φ : Fin 4 × Fin 16 → sProp 𝕄) : bigSep Finset.univ Φ
    = iprop((Φ (0, 0) ∗ lsep offs fun r => Φ (0, r.succ)) ∗ (Φ (1, 0) ∗ lsep offs fun r => Φ (1, r.succ))
        ∗ (Φ (2, 0) ∗ lsep offs fun r => Φ (2, r.succ)) ∗ lsep steps fun t => Φ (3, t)) := by
  rw [bigSep_univ_prod, bigSep_univ_eq_bigSepL [0, 1, 2, 3] (by decide) (by decide)]
  show iprop((bigSep Finset.univ fun o => Φ (0, o)) ∗ (bigSep Finset.univ fun o => Φ (1, o)) ∗ (bigSep Finset.univ fun o => Φ (2, o)) ∗ (bigSep Finset.univ fun o => Φ (3, o))) = _
  rw [all_offs, all_offs, all_offs, all_steps]

end Shifts

/-! ## Buffers and their slots -/

section Slots

variable (c : Dev nD)

def scr0 : sProp 𝕄 := iprop(∃ f : Buf (Elt F) ((c : Thread nD τ).loc cc0_scratch0), ((c : Thread nD τ).loc cc0_scratch0) ↦{fullShare} f)
def scr1 : sProp 𝕄 := iprop(∃ f : Buf (Elt F) ((c : Thread nD τ).loc cc0_scratch1), ((c : Thread nD τ).loc cc0_scratch1) ↦{fullShare} f)
def scr2 : sProp 𝕄 := iprop(∃ f : Buf (Elt F) ((c : Thread nD τ).loc cc0_scratch2), ((c : Thread nD τ).loc cc0_scratch2) ↦{fullShare} f)
def scr3 : sProp 𝕄 := iprop(∃ f : Buf (Elt F) ((c : Thread nD τ).loc cc0_scratch3), ((c : Thread nD τ).loc cc0_scratch3) ↦{fullShare} f)

theorem split {ℓ : Loc nD τ sig} (I : Fin 16 → Finset (Idx ℓ)) (hd : ∀ b b', b ≠ b' → Disjoint (I b) (I b')) (hc : Finset.univ.biUnion I = Finset.univ) :
    (iprop(∃ f, ℓ ↦{fullShare} f) : sProp 𝕄) ⊢ bigSep Finset.univ fun s => iprop(∃ f, ℓ ↦[I s]{fullShare} f) := by
  have key : ∀ f : Buf (Elt F) ℓ, (ℓ ↦{fullShare} f : sProp 𝕄) ⊢ bigSep Finset.univ fun s => iprop(∃ f, ℓ ↦[I s]{fullShare} f) := fun f =>
    (Entails.of_eq (Ring.pointsTo_blocks I hd hc f)).trans (bigSep_mono fun s _ =>
      show (ℓ ↦[I s]{fullShare} f : sProp 𝕄) ⊢ iprop(∃ f, ℓ ↦[I s]{fullShare} f) from by iintro H; iexists f; iexact H)
  iintro ⟨%f, H⟩
  iapply (key f)
  iexact H

theorem slots_apart {a b : Nat} (s s' : Fin 16) (h : s ≠ s') : Disjoint (slotSet a b s) (slotSet a b s') :=
  slots_disjoint s (Finset.mem_univ _) s' (Finset.mem_univ _) h
theorem rows_apart {k : Nat} (s s' : Fin 16) (h : s ≠ s') : Disjoint (rowSet k s) (rowSet k s') :=
  rows_disjoint s (Finset.mem_univ _) s' (Finset.mem_univ _) h

theorem split0 : scr0 (F := F) c ⊢ bigSep Finset.univ fun s => iprop(∃ f, sendPts (F := F) c s f) := split (ℓ := (c : Thread nD τ).loc cc0_scratch0) (slotSet 256 256) slots_apart slots_cover
theorem split1 : scr1 (F := F) c ⊢ bigSep Finset.univ fun s => iprop(∃ f, gotPts (F := F) c s f) := split (ℓ := (c : Thread nD τ).loc cc0_scratch1) (slotSet 256 256) slots_apart slots_cover
theorem split2 : scr2 (F := F) c ⊢ bigSep Finset.univ fun s => iprop(∃ f, wbPts (F := F) c s f) := split (ℓ := (c : Thread nD τ).loc cc0_scratch2) (slotSet 256 2048) slots_apart slots_cover
theorem split3 : scr3 (F := F) c ⊢ bigSep Finset.univ fun s => iprop(∃ f, wePts (F := F) c s f) := split (ℓ := (c : Thread nD τ).loc cc0_scratch3) (slotSet 256 2048) slots_apart slots_cover
theorem join0 (f₀ : Vec F S16x256x256 .fp8e4m3) : bigSep Finset.univ (fun s => iprop(∃ f, sendPts (F := F) c s f)) ⊢ scr0 (F := F) c :=
  Ring.pointsTo_blocks_join_exists (ℓ := (c : Thread nD τ).loc cc0_scratch0) (slotSet 256 256) slots_apart slots_cover f₀
theorem join1 (f₀ : Vec F S16x256x256 .fp8e4m3) : bigSep Finset.univ (fun s => iprop(∃ f, gotPts (F := F) c s f)) ⊢ scr1 (F := F) c :=
  Ring.pointsTo_blocks_join_exists (ℓ := (c : Thread nD τ).loc cc0_scratch1) (slotSet 256 256) slots_apart slots_cover f₀
theorem join2 (f₀ : Vec F S16x256x2048 .f32) : bigSep Finset.univ (fun s => iprop(∃ f, wbPts (F := F) c s f)) ⊢ scr2 (F := F) c :=
  Ring.pointsTo_blocks_join_exists (ℓ := (c : Thread nD τ).loc cc0_scratch2) (slotSet 256 2048) slots_apart slots_cover f₀
theorem join3 (f₀ : Vec F S16x256x2048 .fp8e5m2) : bigSep Finset.univ (fun s => iprop(∃ f, wePts (F := F) c s f)) ⊢ scr3 (F := F) c :=
  Ring.pointsTo_blocks_join_exists (ℓ := (c : Thread nD τ).loc cc0_scratch3) (slotSet 256 2048) slots_apart slots_cover f₀

/-- The weights, by the rows each step uses. -/
def wAll : sProp 𝕄 := ((c : Thread nD τ).loc main_arg1) ↦{fullShare} (wmem m ρ c)
theorem wAll_eq : wAll m ρ c = lsep steps fun t => wPts c (dv (dn c (po t))) (wmem m ρ c) := by
  rw [← by_po c fun s => wPts c s (wmem m ρ c)]
  exact Ring.pointsTo_blocks (ℓ := (c : Thread nD τ).loc main_arg1) (rowSet 2048) rows_apart rows_cover _

end Slots

/-! ## Into the body and out of it -/

/-- The device whose semaphore device `c` pays. -/
def payee (p : Fin 4 × Fin 16) (c : Dev nD) : Dev nD := match p.1 with
  | 0 => dn c p.2
  | 1 => c
  | 2 => up c p.2
  | 3 => c

/-- The tokens of the duties device `c` pays, and its own positions. -/
def payToks (c : Dev nD) : sProp 𝕄 :=
  iprop((bigSep Finset.univ fun p : Fin 4 × Fin 16 => dutyTok ER ((payee p c : Thread nD τ), osem p) 0 false)
    ∗ dutyTok ER (barCell (up c 1)) 0 false ∗ dutyTok ER (barCell (dn c 1)) 0 true)
def poss (c : Dev nD) : sProp 𝕄 := bigSep Finset.univ fun j : J => atPos ER ((c : Thread nD τ), csem j) 0 ∅ 0
def credIn (c : Dev nD) : sProp 𝕄 :=
  iprop(cred (tallyAt (barCell c) () 2) ∗ lsep (F := F) offs (fun r => cred (tallyAt (rdyCell c r.succ) () 1)) ∗ lsep (F := F) offs (fun r => cred (tallyAt (rcvCell c r.succ) () N)))

/-- The send buffer's slot for the device itself, and the positions at the semaphores that no device uses. -/
def idle (c : Dev nD) : sProp 𝕄 :=
  iprop((∃ f, sendPts (F := F) c (dv c) f) ∗ atPos ER (rdyCell c 0) 0 ∅ 0 ∗ atPos ER (sndCell c 0) 0 ∅ 0 ∗ atPos ER (rcvCell c 0) 0 ∅ 0)

theorem body_in (c : Dev nD) :
    iprop(poss (F := F) c ∗ payToks (F := F) c ∗ credIn (F := F) c ∗ wAll m ρ c ∗ (scr0 (F := F) c ∗ scr1 (F := F) c ∗ scr2 (F := F) c ∗ scr3 (F := F) c)
        ∗ xPts m ρ c ∗ (sxPts m ρ c ∗ swPts m ρ c ∗ ∃ f, outPts (F := F) c f))
      ⊢ iprop(bodyIn m ρ c ∗ idle (F := F) c) := by
  unfold poss payToks credIn
  rw [over_J, over_four, over_four, wAll_eq]
  iintro ⟨⟨HaB, ⟨Ha0, Har⟩, ⟨Ha1, Has⟩, ⟨Ha2, Hav⟩, Haw⟩, ⟨⟨⟨-, Htr⟩, ⟨-, Hts⟩, ⟨-, Htv⟩, Htw⟩, HtB1, HtB2⟩, ⟨HcB, Hcr, Hcv⟩, Hw, ⟨H0, H1, H2, H3⟩, Hx, Hout⟩
  ihave H0 := ((split0 (F := F) c).trans (Entails.of_eq (by_up c _))) $$ H0
  ihave H1 := ((split1 (F := F) c).trans (Entails.of_eq (by_dn c _))) $$ H1
  ihave H2 := ((split2 (F := F) c).trans (Entails.of_eq (all_steps _))) $$ H2
  ihave H3 := ((split3 (F := F) c).trans (Entails.of_eq (all_steps _))) $$ H3
  icases H0 with ⟨Hs0, Hs⟩
  icases H1 with ⟨Hg0, Hg⟩
  unfold bodyIn idle sigPre startPre sendPre
  rw [lsep_sep, lsep_sep, lsep_sep, lsep_sep, lsep_sep, lsep_sep, lsep_sep]
  isplitr [Hs0 Ha0 Ha1 Ha2]
  · isplitl [Htr Hg]
    · isplitl [Htr]; · iexact Htr
      iexact Hg
    isplitl [Htw H2 Hw]
    · isplitl [Htw]; · iexact Htw
      isplitl [H2] <;> iassumption
    isplitl [HtB1 HtB2 HcB HaB]
    · isplitl [HtB1]; · iexact HtB1
      isplitl [HtB2]; · iexact HtB2
      isplitl [HcB]; · iexact HcB
      iexact HaB
    isplitl [Hcr Har Hts Htv Hs]
    · isplitl [Hcr]; · iexact Hcr
      isplitl [Har]; · iexact Har
      isplitl [Hts]; · iexact Hts
      isplitl [Htv]; · iexact Htv
      iexact Hs
    isplitl [Hg0]; · iexact Hg0
    isplitl [Haw H3]
    · isplitl [Haw]; · iexact Haw
      iexact H3
    isplitl [Hcv Hav]
    · isplitl [Hcv]; · iexact Hcv
      iexact Hav
    isplitl [Has]; · iexact Has
    isplitl [Hx] <;> iassumption
  isplitl [Hs0]; · iexact Hs0
  isplitl [Ha0]; · iexact Ha0
  isplitl [Ha1]; · iexact Ha1
  iexact Ha2

/-- The semaphores at zero. -/
def zeros (c : Dev nD) : sProp 𝕄 := bigSep Finset.univ fun j : J => semVal ((c : Thread nD τ), csem j) 0

theorem body_out (c : Dev nD) :
    iprop(bodyOut m ρ c ∗ (∃ f, sendPts (F := F) c (dv c) f) ∗ semVal (rdyCell c 0) 0 ∗ semVal (sndCell c 0) 0 ∗ semVal (rcvCell c 0) 0)
      ⊢ iprop(zeros (F := F) c ∗ wAll m ρ c ∗ (scr0 (F := F) c ∗ scr1 (F := F) c ∗ scr2 (F := F) c ∗ scr3 (F := F) c)
          ∗ xPts m ρ c ∗ (sxPts m ρ c ∗ swPts m ρ c ∗ outPts c (outF m ρ c))) := by
  unfold bodyOut zeros
  rw [over_J, over_four, wAll_eq]
  iintro ⟨⟨⟨Hr, Hs, Hv, Hw, HB⟩, ⟨Hps, Hp0, Hpg, Hpb, Hpe⟩, Hwm, Hx, Hout⟩, Hown, Hr0, Hs0, Hv0⟩
  isplitl [Hr Hs Hv Hw HB Hr0 Hs0 Hv0]
  · isplitl [HB]; · iexact HB
    isplitl [Hr0 Hr]
    · isplitl [Hr0]; · iexact Hr0
      iexact Hr
    isplitl [Hs0 Hs]
    · isplitl [Hs0]; · iexact Hs0
      iexact Hs
    isplitl [Hv0 Hv]
    · isplitl [Hv0]; · iexact Hv0
      iexact Hv
    iexact Hw
  isplitl [Hwm]; · iexact Hwm
  isplitl [Hps Hp0 Hpg Hpb Hpe Hown]
  · isplitl [Hps Hown]
    · iapply (join0 (F := F) c (sendF m ρ c))
      rw [by_up c]
      isplitl [Hown]; · iexact Hown
      iapply (lsep_mono (Φ := fun r : Fin 15 => sendPts c (dv (up c r.succ)) (sendF m ρ c)) (fun r => by iintro H; iexists _; iexact H) offs)
      iexact Hps
    isplitl [Hp0 Hpg]
    · iapply (join1 (F := F) c (gotF m ρ c))
      rw [by_dn c]
      isplitl [Hp0]; · iexists _; rw [dn_zero]; iexact Hp0
      iapply (lsep_mono (Φ := fun r : Fin 15 => gotPts c (dv (dn c r.succ)) (gotF m ρ c)) (fun r => by iintro H; iexists _; iexact H) offs)
      iexact Hpg
    isplitl [Hpb]
    · iapply (join2 (F := F) c (wbF m ρ c))
      rw [all_steps]
      iapply (lsep_mono (Φ := fun t : Fin 16 => wbPts c t (wbF m ρ c)) (fun r => by iintro H; iexists _; iexact H) steps)
      iexact Hpb
    · iapply (join3 (F := F) c (weF m ρ c))
      rw [all_steps]
      iapply (lsep_mono (Φ := fun t : Fin 16 => wePts c t (weF m ρ c)) (fun r => by iintro H; iexists _; iexact H) steps)
      iexact Hpe
  isplitl [Hx] <;> iassumption

end Cert.Proof
-- ==== Proof.Call.lean ====
module

public import proofs.«01_k».proof.Proof.Deal
public import proofs.«01_k».proof.Proof.Gen.KernelIdeal.Points
public import proofs.«01_k».proof.Proof.Gen.KernelIdeal.Launch
public import Idealize.ShloMosaic.Lib.Tactic

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws
open Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! The kernel's call: what it starts from and ends with, and its body's obligation. -/

/-- What device `c` starts from. -/
def start (c : Dev nD) : sProp 𝕄 :=
  iprop((∃ K, records m ρ K ∗ poss (F := F) c ∗ payToks (F := F) c) ∗ credIn (F := F) c ∗ levAts L lv ∗ wAll m ρ c)
def scrs (c : Dev nD) : sProp 𝕄 := iprop(scr0 (F := F) c ∗ scr1 (F := F) c ∗ scr2 (F := F) c ∗ scr3 (F := F) c)
def Φ₀ (c : Dev nD) : sProp 𝕄 := iprop(start m ρ c ∗ scrs (F := F) c)
/-- What it ends with: every semaphore at zero, the weights as they were. -/
def Φ₁ (c : Dev nD) : sProp 𝕄 := iprop(zeros (F := F) c ∗ wAll m ρ c ∗ scrs (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => sxstg m ρ c
    | ⟨2, _⟩ => swstg m ρ c
    | ⟨3, _⟩ => outF m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

def t₀ : Fin cfg0.N := t0_0

theorem over_windows (Φ : Fin cfg0.W → sProp 𝕄) : bigSep Finset.univ Φ = iprop(Φ (0 : Fin 4) ∗ Φ (1 : Fin 4) ∗ Φ (2 : Fin 4) ∗ Φ (3 : Fin 4)) := bigSep_W0 Φ

/-- A staging buffer that holds `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem stg_elim (c : Dev nD) (b : Ref sig .tc) (X : b.ty.Contents (Elt F)) : stg c b X ⊢ iprop(((c : Thread nD τ).loc b) ↦{fullShare} X) := by
  iintro ⟨%f, %h, H⟩
  subst h
  iexact H
theorem stg_intro (c : Dev nD) (b : Ref sig .tc) (X : b.ty.Contents (Elt F)) : iprop(((c : Thread nD τ).loc b) ↦{fullShare} X) ⊢ stg c b X := by
  iintro H
  iexists X
  isplitr; · (ipureintro; rfl)
  iexact H

theorem before_x (c : Dev nD) (d) : (dats m ρ 0 c).before (0 : Fin 4) t₀ d = xstg m ρ c := by
  unfold Dat.before; rw [if_pos (fetch0_0 t₀)]; rfl
theorem before_sx (c : Dev nD) (d) : (dats m ρ 0 c).before (1 : Fin 4) t₀ d = sxstg m ρ c := by
  unfold Dat.before; rw [if_pos (fetch0_1 t₀)]; rfl
theorem before_sw (c : Dev nD) (d) : (dats m ρ 0 c).before (2 : Fin 4) t₀ d = swstg m ρ c := by
  unfold Dat.before; rw [if_pos (fetch0_2 t₀)]; rfl

def callPre (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))
def callPost (c : Dev nD) : sProp 𝕄 :=
  iprop(Φ₁ m ρ c ∗ (dats m ρ 0 c).owesAt () t₀.succ ∗ stg c cc0_stg0_0 (xstg m ρ c) ∗ stg c cc0_stg1_0 (sxstg m ρ c)
    ∗ stg c cc0_stg2_0 (swstg m ρ c) ∗ stg c cc0_stg3_0 (outF m ρ c))

theorem idle_rdy : kind (.reg (rdyS 0)) = .idle := by decide
theorem idle_snd : kind (.dma (sndS 0)) = .idle := by decide
theorem idle_rcv : kind (.dma (rcvS 0)) = .idle := by decide

/-- A semaphore that no device uses is closed at zero. -/
theorem close_idle (K : Dev nD × J → ℕ) (c : Dev nD) (j : J) (h : kind (csem j) = .idle) :
    iprop(records m ρ K ∗ atPos ER ((c : Thread nD τ), csem j) 0 ∅ 0) ⊢ |={Set.univ}=> semVal ((c : Thread nD τ), csem j) 0 := by
  iintro ⟨#HR, Hat⟩
  ihave H := (records_at m ρ K c j) $$ HR
  icases H with ⟨#HI, -⟩
  iapply (Rounds.cell_close ER (Rd m ρ) (Set.mem_univ (K (c, j))) (fun h => h) (R := 0) (duties_idle m ρ c _ h))
  isplitr; · iexact HI
  iexact Hat

theorem wp_call (c : Dev nD) : callPre m ρ c ⊢ WP c prog fun _ => callPost m ρ c := by
  unfold callPre Φ₀ start scrs
  iintro ⟨⟨⟨⟨%K, #HR, Hpos, Htok⟩, Hcr, #Hlev, Hw⟩, Hscr⟩, HO, ⟨%d0, Hx⟩, ⟨%d1, Hsx⟩, ⟨%d2, Hsw⟩, ⟨%d3, Ho⟩⟩
  ihave Hx := ((Entails.of_eq (congrArg (stg c cc0_stg0_0) (before_x m ρ c d0))).trans (stg_elim c cc0_stg0_0 _)) $$ Hx
  ihave Hsx := ((Entails.of_eq (congrArg (stg c cc0_stg1_0) (before_sx m ρ c d1))).trans (stg_elim c cc0_stg1_0 _)) $$ Hsx
  ihave Hsw := ((Entails.of_eq (congrArg (stg c cc0_stg2_0) (before_sw m ρ c d2))).trans (stg_elim c cc0_stg2_0 _)) $$ Hsw
  ihave Ho := (stg_elim c cc0_stg3_0 _) $$ Ho
  unfold Dat.owesAt Pipeline.owesWithin
  rw [show (dats m ρ 0 c).owed t₀.castSucc = O₀ c from rfl]
  icases HO with ⟨%W, -, HO⟩
  ihave Hb := (body_in m ρ c) $$ [Hpos Htok Hcr Hw Hscr Hx Hsx Hsw Ho]
  · isplitl [Hpos]; · iexact Hpos
    isplitl [Htok]; · iexact Htok
    isplitl [Hcr]; · iexact Hcr
    isplitl [Hw]; · iexact Hw
    isplitl [Hscr]; · iexact Hscr
    isplitl [Hx]; · unfold xPts; iexact Hx
    isplitl [Hsx]; · unfold sxPts; iexact Hsx
    isplitl [Hsw]; · unfold swPts; iexact Hsw
    iexists _; unfold outPts; iexact Ho
  icases Hb with ⟨Hb, Hidle⟩
  unfold idle
  icases Hidle with ⟨Hs0, Ha0, Ha1, Ha2⟩
  imod (close_idle m ρ K c (some (0, 0)) idle_rdy) $$ [Ha0] with Hz0
  · isplitr; · iexact HR
    iexact Ha0
  imod (close_idle m ρ K c (some (1, 0)) idle_snd) $$ [Ha1] with Hz1
  · isplitr; · iexact HR
    iexact Ha1
  imod (close_idle m ρ K c (some (2, 0)) idle_rcv) $$ [Ha2] with Hz2
  · isplitr; · iexact HR
    iexact Ha2
  iapply (wp_prog m ρ K c fun _ => callPost m ρ c) $$ [HO Hb]
  · isplitr; · iexact HR
    isplitr; · iexact Hlev
    isplitl [HO]; · unfold ow; iexists W; iexact HO
    iexact Hb
  iintro ⟨HO, Hb⟩
  ihave Hb := (body_out m ρ c) $$ [Hb Hs0 Hz0 Hz1 Hz2]
  · isplitl [Hb]; · iexact Hb
    isplitl [Hs0]; · iexact Hs0
    isplitl [Hz0]; · iexact Hz0
    isplitl [Hz1]; · iexact Hz1
    iexact Hz2
  icases Hb with ⟨Hz, Hw, Hscr, Hx, Hsx, Hsw, Ho⟩
  unfold callPost Φ₁ scrs ow Dat.owesAt Pipeline.owesWithin
  rw [show (dats m ρ 0 c).owed t₀.succ = 0 from rfl]
  icases HO with ⟨%W', HO⟩
  isplitl [Hz Hw Hscr]
  · isplitl [Hz]; · iexact Hz
    isplitl [Hw]; · iexact Hw
    iexact Hscr
  isplitl [HO]
  · iexists W'
    isplitr; · ipureintro; exact fun _ _ => Or.inl trivial
    iexact HO
  isplitl [Hx]; · unfold xPts; iapply (stg_intro c cc0_stg0_0); iexact Hx
  isplitl [Hsx]; · unfold sxPts; iapply (stg_intro c cc0_stg1_0); iexact Hsx
  isplitl [Hsw]; · unfold swPts; iapply (stg_intro c cc0_stg2_0); iexact Hsw
  unfold outPts; iapply (stg_intro c cc0_stg3_0); iexact Ho

set_option maxRecDepth 30000 in
/-- The body's obligation. -/
theorem body_obligation (c : Dev nD) : BodyObligation (dats (F := F) m ρ 0 c) (defs₀ (F := F)) 𝒱₀ () Set.univ := fun t => by
  rw [show t = t₀ from fin_N0 t]
  rw [over_windows, over_windows]
  simp only [owns_stg]
  show callPre m ρ c ⊢ WP c (cc0_body (F := F) mX (Memref.isWhole_whole _) mW (Memref.isWhole_whole _) mSx (Memref.isWhole_whole _) mSw (Memref.isWhole_whole _)
    mO (Memref.isWhole_whole _) mSend (Memref.isWhole_whole _) mGot (Memref.isWhole_whole _) mWb (Memref.isWhole_whole _) mWe (Memref.isWhole_whole _)
    cc0_scratch4 cc0_scratch5 cc0_scratch6 cc0_scratch7) (fun _ => callPost m ρ c)
  rw [body_eq]
  exact wp_call m ρ c

end Cert.Proof
-- ==== Proof.Run.lean ====
module

public import proofs.«01_k».proof.Proof.Call
public import Idealize.ShloMosaic.Lib.Pipeline.Launch
public import Idealize.ShloMosaic.Lib.Pipeline.Kit
public import Idealize.ShloMosaic.Lib.Pipeline.CollectiveSegs

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws
open Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! The launch: the semaphores' rounds are set up, their tokens and credit dealt out, and all sixteen devices run. -/

/-! ## Semaphores and tokens -/

theorem csem_injective : Function.Injective csem := by decide +kernel

theorem kcell_injective : Function.Injective (kcell : Dev nD × J → GSem nD τ sig) := by
  rintro ⟨c, j⟩ ⟨c', j'⟩ h
  have h1 : c = c' := congrArg (fun g : GSem nD τ sig => g.1.1) h
  have h2 : j = j' := csem_injective (congrArg Prod.snd h)
  rw [h1, h2]

/-- A device's own duties: one on each semaphore of four kinds, two on the barrier. -/
abbrev T : Type := (Fin 4 × Fin 16) ⊕ Bool
def tokOf (cj : Dev nD × T) : GSem nD τ sig × ℕ × Bool := match cj.2 with
  | .inl p => (kcell (cj.1, some p), 0, false)
  | .inr b => (kcell (cj.1, none), 0, b)
theorem tokOf_injective : Function.Injective tokOf := by
  rintro ⟨c, j⟩ ⟨c', j'⟩ h
  rcases j with p | b <;> rcases j' with p' | b'
  · have := kcell_injective (congrArg Prod.fst h : kcell (c, some p) = kcell (c', some p'))
    injection this with h1 h2
    injection h2 with h2
    have h1' : c = c' := h1
    rw [h1', h2]
  · have := kcell_injective (congrArg Prod.fst h : kcell (c, some p) = kcell (c', none))
    injection this with h1 h2
    exact absurd h2 (Option.some_ne_none p)
  · have := kcell_injective (congrArg Prod.fst h : kcell (c, none) = kcell (c', some p'))
    injection this with h1 h2
    exact absurd h2.symm (Option.some_ne_none p')
  · have := kcell_injective (congrArg Prod.fst h : kcell (c, none) = kcell (c', none))
    injection this with h1 h2
    have hb : b = b' := congrArg (fun x : GSem nD τ sig × ℕ × Bool => x.2.2) h
    have h1' : c = c' := h1
    rw [h1', hb]

def allCells : Finset (GSem nD τ sig) := Finset.univ.map ⟨kcell, kcell_injective⟩
def allToks : Finset (GSem nD τ sig × ℕ × Bool) := Finset.univ.map ⟨tokOf, tokOf_injective⟩
def u₀ : UU := (initOf (Pipeline.cells cfgs cellOf_inj) (Pipeline.launchToks cfgs cellOf_inj), initOf allCells allToks)

/-- The tokens of the duties on device `c`'s own semaphores. -/
def toks (c : Dev nD) : sProp 𝕄 :=
  iprop((bigSep Finset.univ fun p : Fin 4 × Fin 16 => dutyTok ER ((c : Thread nD τ), osem p) 0 false)
    ∗ dutyTok ER (barCell c) 0 false ∗ dutyTok ER (barCell c) 0 true)
def G (c : Dev nD) : sProp 𝕄 :=
  iprop((bigSep Finset.univ fun j : J => roundState ER (Rd m ρ) (kcell (c, j)) 0)
    ∗ (poss (F := F) c ∗ bigSep Finset.univ fun j : J => reached ER (kcell (c, j)) 0) ∗ toks (F := F) c)
def G' (c : Dev nD) : sProp 𝕄 := iprop(∃ K, records m ρ K ∗ poss (F := F) c ∗ payToks (F := F) c)

theorem over_cells (Φ : GSem nD τ sig → sProp 𝕄) :
    bigSep allCells Φ = bigSep Finset.univ fun c : Dev nD => bigSep Finset.univ fun j : J => Φ (kcell (c, j)) := by
  unfold allCells; rw [bigSep_map, bigSep_univ_prod]; rfl
theorem over_bool (Φ : Bool → sProp 𝕄) : bigSep Finset.univ Φ = iprop(Φ false ∗ Φ true) :=
  bigSep_univ_eq_bigSepL [false, true] (by decide) (by decide) Φ
theorem over_toks : bigSep allToks (fun x => (dutyTok ER x.1 x.2.1 x.2.2 : sProp 𝕄)) = bigSep Finset.univ fun c : Dev nD => toks (F := F) c := by
  unfold allToks
  rw [bigSep_map, bigSep_univ_prod]
  refine bigSep_congr fun c _ => ?_
  rw [bigSep_univ_sum, over_bool]
  rfl

theorem fund : BI.own (ER (initOf allCells allToks)) ⊢ (|==> bigSep Finset.univ (G m ρ) : sProp 𝕄) := by
  iintro HX
  imod (Rounds.fund ER (Rd m ρ) allCells allToks) $$ HX with ⟨Hst, Hr, Hat, Htok⟩
  imodintro
  ihave Hst := (Entails.of_eq (over_cells fun g => roundState ER (Rd m ρ) g 0)) $$ Hst
  ihave Hat := (Entails.of_eq (over_cells fun g => atPos ER g 0 ∅ 0)) $$ Hat
  ihave Hr := (Entails.of_eq (over_cells fun g => reached ER g 0)) $$ Hr
  ihave Htok := (Entails.of_eq (over_toks (F := F))) $$ Htok
  unfold G poss
  rw [bigSep_sep', bigSep_sep', bigSep_sep']
  isplitl [Hst]; · iexact Hst
  isplitl [Hat Hr]
  · isplitl [Hat] <;> iassumption
  iexact Htok

theorem ownSemFacts : Pipeline.OwnSemFacts cfg0.spec osem := by decide +kernel

theorem unscoped_eq (c : Dev nD) : (unscopedSems0 c : sProp 𝕄) = semVal (barCell c) 0 := by
  unfold unscopedSems0; rw [bigSep_eq_bigSepL_of_eq [SemLoc.reg barS] (by decide) (by decide)]; rfl
theorem sems_eq (c : Dev nD) :
    zeros (F := F) c = iprop(unscopedSems0 c ∗ Pipeline.ownSems0 (Ix := Unit) (Name := ℕ) (U := UU) (Lvl := ℕ) (Val := Elt F) (τ := τ) osem c) := by
  unfold zeros; rw [over_J, unscoped_eq]; rfl

theorem alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun j : J => iprop(∃ κ : ℕ, cellInv ER (Rd m ρ) κ (kcell (c, j))))
          ∗ (poss (F := F) c ∗ bigSep Finset.univ fun j : J => reached ER (kcell (c, j)) 0) ∗ toks (F := F) c) := by
  unfold G
  iintro ⟨Hos, Hus, Hst, Hat, Htok⟩
  ihave Hv := (Entails.of_eq (sems_eq (F := F) c).symm) $$ [Hos Hus]
  · isplitl [Hus] <;> iassumption
  imod (show iprop((zeros (F := F) c) ∗ bigSep Finset.univ fun j : J => roundState ER (Rd m ρ) (kcell (c, j)) 0)
      ⊢ (|={Set.univ}=> bigSep Finset.univ fun j : J => iprop(∃ κ : ℕ, cellInv ER (Rd m ρ) κ (kcell (c, j))) : sProp 𝕄) from by
        unfold zeros
        rw [← bigSep_sep']
        exact (bigSep_mono fun j _ => (Rounds.body_intro ER (Rd m ρ) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens to the devices that pay -/

def shift (o : Fin 16) : Dev nD ≃ Dev nD := ⟨fun c => up c o, fun c => dn c o, fun c => dn_up c o, fun c => up_dn c o⟩
def payE (p : Fin 4 × Fin 16) : Dev nD ≃ Dev nD := match p.1 with
  | 0 => (shift p.2).symm
  | 1 => Equiv.refl _
  | 2 => shift p.2
  | 3 => Equiv.refl _
theorem payE_eq (p : Fin 4 × Fin 16) (c : Dev nD) : payE p c = payee p c := by
  obtain ⟨k, o⟩ := p
  fin_cases k <;> rfl

theorem toks_dealt : (bigSep Finset.univ fun c : Dev nD => toks (F := F) c) = bigSep Finset.univ fun c : Dev nD => payToks (F := F) c := by
  unfold toks payToks
  rw [bigSep_sep', bigSep_sep', bigSep_sep', bigSep_sep']
  refine congrArg₂ (fun a b : sProp 𝕄 => iprop(a ∗ b)) ?_ (congrArg₂ (fun a b : sProp 𝕄 => iprop(a ∗ b)) ?_ ?_)
  · rw [bigSep_univ_comm, bigSep_univ_comm (fun (c : Dev nD) (p : Fin 4 × Fin 16) => (dutyTok ER ((payee p c : Thread nD τ), osem p) 0 false : sProp 𝕄))]
    refine bigSep_congr fun p _ => ?_
    rw [bigSep_univ_equiv (payE p)]
    exact bigSep_congr fun c _ => by rw [payE_eq]
  · exact bigSep_univ_equiv (shift 1) fun c : Dev nD => (dutyTok ER (barCell c) 0 false : sProp 𝕄)
  · exact bigSep_univ_equiv (shift 1).symm fun c : Dev nD => (dutyTok ER (barCell c) 0 true : sProp 𝕄)

theorem keep_mono {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ := by
  have h1 : iprop((bigSep Finset.univ fun _ : Dev nD => R) ∗ bigSep Finset.univ Φ) ⊢ bigSep Finset.univ Ψ := by
    rw [← bigSep_sep']; exact bigSep_mono fun c _ => h c
  iintro ⟨HR, HΦ⟩
  iapply h1
  isplitl [HR]
  · iapply (BI.bigSep_of_persistent Finset.univ R); iexact HR
  iexact HΦ

theorem regroup :
    (bigSep Finset.univ fun c : Dev nD => iprop((bigSep Finset.univ fun j : J => iprop(∃ κ : ℕ, cellInv ER (Rd m ρ) κ (kcell (c, j))))
          ∗ (poss (F := F) c ∗ bigSep Finset.univ fun j : J => reached ER (kcell (c, j)) 0) ∗ toks (F := F) c) : sProp 𝕄)
      ⊢ bigSep Finset.univ (G' m ρ) := by
  rw [bigSep_sep', bigSep_sep', bigSep_sep', toks_dealt, ← bigSep_univ_prod (fun ck : Dev nD × J => iprop(∃ κ : ℕ, cellInv ER (Rd m ρ) κ (kcell ck))),
    ← bigSep_univ_prod (fun ck : Dev nD × J => (reached ER (kcell ck) 0 : sProp 𝕄))]
  iintro ⟨HI, ⟨Hat, HR⟩, Htok⟩
  ihave HK := (BI.bigSep_exists_pi Finset.univ (fun (ck : Dev nD × J) (κ : ℕ) => (cellInv ER (Rd m ρ) κ (kcell ck) : sProp 𝕄))) $$ HI
  icases HK with ⟨%K, HI⟩
  iapply (keep_mono (R := records m ρ K) (Φ := fun c => iprop(poss (F := F) c ∗ payToks (F := F) c)) (Ψ := G' m ρ) fun c => by
    unfold G'
    iintro ⟨HR, H⟩
    iexists K
    isplitl [HR] <;> iassumption)
  isplitl [HI HR]
  · unfold records; rw [bigSep_sep']
    isplitl [HI] <;> iassumption
  rw [bigSep_sep']
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => alloc m ρ c).trans (bigSep_fupd _ _)).trans (BI.fupd_mono (regroup m ρ))

/-! ## The credit at launch -/

theorem cred_tally (e : Dev nD ≃ Dev nD) (sm : SemLoc sig) (n : ℕ) (c : Dev nD) :
    (Pipeline.launchCred (fun d => tallyAt ((e d : Thread nD τ), sm) () n) c : sProp 𝕄) ⊢ cred (tallyAt ((c : Thread nD τ), sm) () n) := by
  refine (Pipeline.launchCred_elim _ c sm).trans (Entails.of_eq (congrArg cred ?_))
  unfold tallyAt
  refine congrArg _ (Finsupp.ext fun u => ?_)
  cases u
  rw [Pipeline.launchCredit_owing, Finsupp.single_eq_same]
  have h : ∀ d : Dev nD, (tallyAt ((e d : Thread nD τ), sm) () n : CellTallies nD τ sig Unit) ((c : Thread nD τ), sm) () = if d = e.symm c then n else 0 := fun d => by
    rw [tallyAt_apply]
    by_cases hd : d = e.symm c
    · subst hd; rw [Equiv.apply_symm_apply, if_pos ⟨rfl, rfl⟩, if_pos rfl]
    · rw [if_neg hd, if_neg]
      rintro ⟨h, -⟩
      have h1 : c = e d := congrArg (fun g : GSem nD τ sig => g.1.1) h
      exact hd (by rw [h1, Equiv.symm_apply_apply])
  exact (Finset.sum_congr rfl fun d _ => h d).trans (by rw [Finset.sum_ite_eq' Finset.univ (e.symm c) fun _ => n, if_pos (Finset.mem_univ _)])

theorem cred_lsum {α : Type} (f : Dev nD → α → CellTallies nD τ sig Unit) (Φ : α → sProp 𝕄) (c : Dev nD)
    (h : ∀ a, (Pipeline.launchCred (fun d => f d a) c : sProp 𝕄) ⊢ Φ a) : ∀ l : List α, (Pipeline.launchCred (fun d => lsum l (f d)) c : sProp 𝕄) ⊢ lsep l Φ
  | [] => by rw [lsep_nil]; iintro -; iempintro
  | a :: l => by
    show (Pipeline.launchCred (fun d => lsum l (f d) + f d a) c : sProp 𝕄) ⊢ _
    rw [Pipeline.launchCred_add (fun d => lsum l (f d)) (fun d => f d a) c, lsep_cons]
    iintro ⟨H1, H2⟩
    isplitl [H2]; · iapply (h a); iexact H2
    iapply (cred_lsum f Φ c h l); iexact H1

theorem cred_offs (e : Fin 15 → Dev nD ≃ Dev nD) (sm : Fin 15 → SemLoc sig) (n : ℕ) (c : Dev nD) (l : List (Fin 15)) :
    (Pipeline.launchCred (fun d => lsum l fun r => tallyAt ((e r d : Thread nD τ), sm r) () n) c : sProp 𝕄)
      ⊢ lsep l fun r => cred (tallyAt ((c : Thread nD τ), sm r) () n) :=
  cred_lsum (F := F) (fun d r => tallyAt ((e r d : Thread nD τ), sm r) () n) _ c (fun r => cred_tally (e r) (sm r) n c) l

theorem cred_rdy (c : Dev nD) : (Pipeline.launchCred (fun d => owedRdy d offs) c : sProp 𝕄) ⊢ lsep offs fun r => cred (tallyAt (rdyCell c r.succ) () 1) :=
  cred_offs (fun r => (shift r.succ).symm) (fun r => .reg (rdyS r.succ)) 1 c offs
theorem cred_rcv (n : ℕ) (c : Dev nD) : (Pipeline.launchCred (fun d => lsum offs fun r => tallyAt (rcvCell (up d r.succ) r.succ) () n) c : sProp 𝕄)
    ⊢ lsep offs fun r => cred (tallyAt (rcvCell c r.succ) () n) :=
  cred_offs (fun r => shift r.succ) (fun r => .dma (rcvS r.succ)) n c offs

theorem creds (c : Dev nD) : (Pipeline.launchCred O₀ c : sProp 𝕄) ⊢ credIn (F := F) c := by
  show (Pipeline.launchCred (fun d => owedBar d + owedRdy d offs) c : sProp 𝕄) ⊢ _
  rw [Pipeline.launchCred_add owedBar (fun d => owedRdy d offs) c]
  rw [show (Pipeline.launchCred owedBar c : sProp 𝕄) = Pipeline.launchCred (fun d => (owedRcv d offs + tallyAt (barCell (dn d 1)) () 1) + tallyAt (barCell (up d 1)) () 1) c from rfl]
  rw [Pipeline.launchCred_add (fun d => owedRcv d offs + tallyAt (barCell (dn d 1)) () 1) (fun d => tallyAt (barCell (up d 1)) () 1) c,
    Pipeline.launchCred_add (fun d => owedRcv d offs) (fun d => tallyAt (barCell (dn d 1)) () 1) c]
  unfold credIn
  iintro ⟨⟨⟨Hrcv, Hb1⟩, Hb2⟩, Hrdy⟩
  ihave Hb1 := (show (Pipeline.launchCred (fun d => tallyAt (barCell (dn d 1)) () 1) c : sProp 𝕄) ⊢ _ from cred_tally (F := F) (shift 1).symm (.reg barS) 1 c) $$ Hb1
  ihave Hb2 := (show (Pipeline.launchCred (fun d => tallyAt (barCell (up d 1)) () 1) c : sProp 𝕄) ⊢ _ from cred_tally (F := F) (shift 1) (.reg barS) 1 c) $$ Hb2
  isplitl [Hb1 Hb2]
  · have e : iprop(cred (tallyAt (barCell c) () 1) ∗ cred (tallyAt (barCell c) () 1)) ⊢ (cred (tallyAt (barCell c) () 2) : sProp 𝕄) :=
      (cred_add _ _).2.trans (Entails.of_eq (congrArg cred (tallyAt_add (barCell c) () 1 1)))
    iapply e
    isplitl [Hb1] <;> iassumption
  isplitl [Hrdy]
  · iapply (cred_rdy (F := F) c); iexact Hrdy
  · unfold owedRcv
    iapply (cred_rcv (F := F) N c); iexact Hrcv

/-! ## The call's side conditions -/

theorem share_eq (c : Dev nD) (w : Fin cfg0.W) : (dats m ρ 0 c).share w = fullShare := by unfold Dat.share; split <;> rfl

theorem rest_eq (c : Dev nD) :
    (Pipeline.unscopedRestP Pipeline.Prefetch.none cfg0.spec c (fun b => m ((c : Thread nD τ).loc b)) : sProp 𝕄) = wAll m ρ c := by
  rw [Pipeline.unscopedRestP_eq_of_list cfg0.spec c Pipeline.Prefetch.none (fun b => m ((c : Thread nD τ).loc b)) [main_arg1] (by decide) (by decide)]
  rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [rest_eq m ρ c]
  iintro ⟨Hw, Hlev, Hcr, -, HG⟩
  ihave Hcr := (creds (F := F) c) $$ Hcr
  imodintro
  unfold start G'
  isplitl
  · isplitl [HG]; · iexact HG
    isplitl [Hcr]; · iexact Hcr
    isplitl [Hlev] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scrs scr0 scr1 scr2 scr3
  iintro ⟨Hs, -, Hr⟩
  isplitl [Hs] <;> iassumption

theorem phi1_exit (c : Dev nD) :
    (dats m ρ 0 c).Φ (Fin.last cfg0.N) ⊢ iprop((unscopedSems0 c ∗ wAll m ρ c) ∗ Pipeline.ownSems0 osem c ∗ Pipeline.scopedRest cfg0.spec c) := by
  rw [show (dats m ρ 0 c).Φ (Fin.last cfg0.N) = Φ₁ m ρ c from rfl, scopedRest0_eq]
  unfold Φ₁
  rw [sems_eq]
  unfold scrs scr0 scr1 scr2 scr3
  iintro ⟨⟨Hu, Ho⟩, Hw, Hr⟩
  isplitl [Hu Hw]
  · isplitl [Hu] <;> iassumption
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_of_above c _ (n := 0) (by fin_cases w <;> fin_cases s <;> decide) (by
      rcases t with ⟨_ | _, ht⟩
      · exact above_O₀ c
      · exact above_zero 0)

theorem weights_read (c : Dev nD) (s' : Phys nD τ sig (Elt F)) :
    iprop(wAll m ρ c ∗ SI s') ⊢ (⌜s'.mem.mem ((c : Thread nD τ).loc main_arg1) = m ((c : Thread nD τ).loc main_arg1)⌝ : sProp 𝕄) := by
  unfold wAll
  iintro ⟨H, HSI⟩
  ihave %h := (SI_pointsTo_agree) $$ [HSI H]
  · isplitl [HSI] <;> iassumption
  ipureintro
  exact funext fun i => h i (Finset.mem_univ i)

/-! ## The run -/

/-- Window `w`'s array on device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r => ∀ c : Dev nD,
  (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 30000 in
/-- From any memory with every counter at zero, at any float values, the sixteen devices' program terminates without fault, leaves
    each window's array at `finalA` and the weights as they were, and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => iprop(unscopedSems0 c ∗ wAll m ρ c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨⟨Hu, Hw⟩, -, HSI⟩
      imod (Pipeline.unscopedSems0_read (X := unscopedSems0 c) (c := c) fupd_intro s') $$ [Hu HSI] with ⟨%h, HSI⟩
      · isplitl [Hu] <;> iassumption
      ihave H := (persistent_entails_right (weights_read m ρ c s')) $$ [Hw HSI]
      · isplitl [Hw] <;> iassumption
      icases H with ⟨%h', -, HSI⟩
      imodintro
      isplitr; · ipureintro; exact ⟨h, h'⟩
      iexact HSI)
    (hQ := fun _ h hs => ⟨fun c => ⟨fun w => (h c).1 w, (h c).2.2.2⟩, sem_eq_zero hs fun c => (h c).2.2.1⟩)

end Cert.Proof
-- ==== Proof.Arrays.lean ====
module

public import proofs.«01_k».proof.Proof.Run
public import Idealize.ShloMosaic.Lib.Pipeline.Value

@[expose] public section

noncomputable section

namespace Cert.Proof

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-! What the arrays hold after the run: every argument as it was, the result at `outF`. -/

/-- The staged block of `x` is the device's whole array; -/
theorem xstg_eq (c : Dev nD) : xstg m ρ c = m ((c : Thread nD τ).loc main_arg0) :=
  Memref.read_access_unit_zero (Elt F) main_arg0 (off := fun a => (win0_0.index (0 : Fin 1)) a * main_arg0.ty.shape.size a)
    (funext fun a => Nat.zero_mul _) (fun a => by show 0 * main_arg0.ty.shape.size a + main_arg0.ty.shape.size a ≤ main_arg0.ty.shape.size a; omega) _
/-- so are the two scales. -/
theorem sxstg_eq (c : Dev nD) : sxstg m ρ c = m ((c : Thread nD τ).loc main_arg2) :=
  Memref.read_access_unit_zero (Elt F) main_arg2 (off := fun a => (win0_1.index (0 : Fin 1)) a * main_arg2.ty.shape.size a)
    (funext fun a => Nat.zero_mul _) (fun a => by show 0 * main_arg2.ty.shape.size a + main_arg2.ty.shape.size a ≤ main_arg2.ty.shape.size a; omega) _
theorem swstg_eq (c : Dev nD) : swstg m ρ c = m ((c : Thread nD τ).loc main_arg3) :=
  Memref.read_access_unit_zero (Elt F) main_arg3 (off := fun a => (win0_2.index (0 : Fin 1)) a * main_arg3.ty.shape.size a)
    (funext fun a => Nat.zero_mul _) (fun a => by show 0 * main_arg3.ty.shape.size a + main_arg3.ty.shape.size a ≤ main_arg3.ty.shape.size a; omega) _

/-- The result array is written back once, whole. -/
theorem final_out (c : Dev nD) : finalA m ρ c (3 : Fin 4) = outF m ρ c := by
  have h := (dats (F := F) m ρ 0 c).read_blk_arrAt_eq_flushed (3 : Fin 4)
    (fun t t' _ _ hne => absurd (Fin.ext (by have := t.isLt; have := t'.isLt; have : cfg0.N = 1 := rfl; omega)) hne)
    cfg0.N t₀ t₀.isLt (flush0_3 t₀)
  exact (Memref.read_access_unit_zero (Elt F) main_v1 (off := fun a => (win0_3.index t₀) a * main_v1.ty.shape.size a)
    (funext fun a => Nat.zero_mul _) (fun a => by show 0 * main_v1.ty.shape.size a + main_v1.ty.shape.size a ≤ main_v1.ty.shape.size a; omega) _).symm.trans h

/-- After the run the arguments are as they were, -/
theorem kept (r : PUnit × MemSt nD τ sig (Elt F)) (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 (0 : Fin 4)).trans ((dats (F := F) m ρ 0 c).arrAt_in (0 : Fin 4) rfl _), (h c).2,
    ((h c).1 (1 : Fin 4)).trans ((dats (F := F) m ρ 0 c).arrAt_in (1 : Fin 4) rfl _),
    ((h c).1 (2 : Fin 4)).trans ((dats (F := F) m ρ 0 c).arrAt_in (2 : Fin 4) rfl _)⟩

/-- and the result is `outF`. -/
theorem result (r : PUnit × MemSt nD τ sig (Elt F)) (h : QC m ρ r) (c : Dev nD) :
    r.2.mem ((c.tc : Thread nD τ).loc main_v1) = outF m ρ c := ((h c).1 (3 : Fin 4)).trans (final_out m ρ c)

theorem one_idx (i j : S1.Idx) : i = j := funext fun a => Fin.ext (by
  have hs : S1.size a = 1 := by fin_cases a; rfl
  have h1 := (i a).isLt
  have h2 := (j a).isLt
  omega)

/-- A scale is the one element of its array. -/
theorem sx_eq (c : Dev nD) (i : S1.Idx) : sx m ρ c = m ((c : Thread nD τ).loc main_arg2) i := by
  unfold sx
  rw [sxstg_eq]
  exact congrArg (m ((c : Thread nD τ).loc main_arg2)) (one_idx _ _)
theorem sw_eq (c : Dev nD) (i : S1.Idx) : sw m ρ c = m ((c : Thread nD τ).loc main_arg3) i := by
  unfold sw
  rw [swstg_eq]
  exact congrArg (m ((c : Thread nD τ).loc main_arg3)) (one_idx _ _)

end Cert.Proof

end
-- ==== Proof.Products.lean ====
module

public import proofs.«01_k».proof.Proof.Deal
public import Idealize.ShloMosaic.Lib.MatmulPlain
public import Idealize.ShloMosaic.Lib.ValueLayout

@[expose] public section

noncomputable section

namespace Cert.Proof

open Idealize.ShloMosaic Idealize.ShloMosaic.TcCoe Idealize.ShloMosaic.ValueIdx
open scoped BigOperators
open Cert.KernelIdeal Cert.KernelIdeal.Gen

variable (m : (ℓ : Loc nD τ sig) → Buf (Elt Ideal) ℓ) (ρ : Dev nD → PrngReg)

/-! The kernel's sum, over the extended reals. -/

/-- Row `a` of block `s` of 4096 rows. -/
def rowAt (s : Fin 16) (a : Fin 256) : Fin 4096 := ⟨256 * s.val + a.val, by omega⟩

theorem inRows_ix2 {k : ℕ} (s : Fin 16) (a : Fin 256) (b : Fin k) :
    inRows s (ix2 a b) = ix2 (rowAt s a) b := by
  funext j
  rcases j with ⟨_ | _ | n, hj⟩
  · rfl
  · rfl
  · exact absurd hj (by show ¬ n + 2 < 2; omega)

/-- One step's product: 256 positions of the sum over all 4096. -/
theorem term_apply (c s : Dev nD) (t : Fin 16) (i : Fin 256) (j : Fin 2048) :
    (term m ρ c s t (ix2 i j) : EReal)
      = ∑ k : Fin 256, (xstg m ρ s (ix2 (rowAt (dv c) i) k) : EReal)
          * wmem m ρ c (ix2 (rowAt (dv (dn c (po t))) k) j) := by
  show FloatOps.matmul (F := Ideal) (DotDims.plain 256 256 2048) none _ _ (constant (F := Ideal) S256x2048 .f32 0x00000000#32) (ix2 i j) = _
  rw [Ideal.matmul_plain_apply]
  rw [show (constant (F := Ideal) S256x2048 .f32 0x00000000#32) (ix2 i j) = (0 : EReal) from Ideal.ofBits_zero_f32, zero_add]
  refine Finset.sum_congr rfl fun k _ => congrArg₂ (· * ·) ?_ ?_
  · unfold lead
    rw [shapeCast_shapeCast, shapeCast_self]
    exact congrArg (xstg m ρ s) (inRows_ix2 (dv c) i k)
  · unfold narrow wblk
    rw [shapeCast_shapeCast]
    show shapeCast S256x2048 (shapeCast S1x256x2048 (rowsOf (wmem m ρ c) (dv (dn c (po t)))) _) _ (ix2 k j) = _
    rw [shapeCast_shapeCast]
    exact congrArg (wmem m ρ c) (inRows_ix2 (dv (dn c (po t))) k j)

theorem accR_apply (c : Dev nD) (x : S256x2048.Idx) : ∀ (l : List (Fin 16 × Fin 15)) (acc : FVec Ideal S256x2048 .f32),
    (accR m ρ c l acc x : EReal) = acc x + (l.map fun p => (term m ρ c (dn c p.2.succ) p.1 x : EReal)).sum
  | [], acc => (add_zero _).symm
  | (t, r) :: l, acc => by
    show (accR m ρ c l (addf acc (term m ρ c (dn c r.succ) t)) x : EReal) = _
    rw [accR_apply c x l, List.map_cons, List.sum_cons, ← add_assoc]
    rfl

/-- The sixteen steps meet every device once. -/
theorem sum_steps {M : Type} [AddCommMonoid M] (c : Dev nD) (g : Fin 16 → M) :
    g (dv (dn c 0)) + (rsteps.map fun p => g (dv (dn c p.2.succ))).sum = ∑ s : Fin 16, g s := by
  have e : ∀ h : Fin 16 → M, h 0 + (rsteps.map fun p => h p.2.succ).sum = ∑ o : Fin 16, h o := by
    intro h
    have hp : ((0 : Fin 16) :: rsteps.map fun p => p.2.succ).Perm (List.finRange 16) := by decide
    have := (hp.map h).sum_eq
    rw [List.map_cons, List.sum_cons, List.map_map] at this
    exact this.trans (Fin.sum_univ_def h).symm
  rw [e fun o => g (dv (dn c o))]
  exact Equiv.sum_comp (Equiv.ofBijective (fun o => dv (dn c o)) (Finite.injective_iff_bijective.mp (dn_inj c))) g

end Cert.Proof

end
-- ==== Proof.Reference.lean ====
module

public import proofs.«01_k».proof.Proof.Gen.ReferenceIdeal.Value
public import Idealize.ShloMosaic.Lib.MatmulPlain

@[expose] public section

set_option maxRecDepth 16384

noncomputable section

namespace Cert.Proof.Reference

open Idealize.ShloMosaic Idealize.ShloMosaic.TcCoe Idealize.ShloMosaic.ValueIdx Idealize.SL.Sem
open scoped BigOperators
open Cert.ReferenceIdeal Cert.ReferenceIdeal.Gen

/-! What the reference computes: every element of the result, over the extended reals. -/

/-- An element of the scaled product. -/
theorem pay_apply (x : Vec Ideal S4096x4096 .fp8e4m3) (w : Vec Ideal S4096x2048 .f32) (a b : Elt Ideal .f32) (i : Fin 4096) (j : Fin 2048) :
    (k0_pay1 (F := Ideal) x w a b (ix2 i j) : EReal)
      = (∑ k : Fin 4096, (x (ix2 i k) : EReal) * w (ix2 k j)) * ((a : EReal) * b) := by
  show (FloatOps.matmul (F := Ideal) (DotDims.plain 4096 4096 2048) none _ _ (constant (F := Ideal) S4096x2048 .f32 0x00000000#32) (ix2 i j) : EReal) * _ = _
  rw [Ideal.matmul_plain_apply]
  rw [show (constant (F := Ideal) S4096x2048 .f32 0x00000000#32) (ix2 i j) = (0 : EReal) from Ideal.ofBits_zero_f32, zero_add]
  rfl

theorem zero2 : (![0, 0] : Fin 2 → ℕ) = fun _ => 0 := funext fun a => by fin_cases a <;> rfl

/-- The body's one store leaves the scaled product of what the buffers hold. -/
theorem out_eq (c : Dev nD) (a0 : Memref sig .tc .vmem S4096x4096 .fp8e4m3) (h0 : a0.IsWhole) (a1 : Memref sig .tc .vmem S4096x2048 .f32) (h1 : a1.IsWhole)
    (a2 : Memref sig .tc .smem S1 .f32) (h2 : a2.IsWhole) (a3 : Memref sig .tc .smem S1 .f32) (h3 : a3.IsWhole)
    (a4 : Memref sig .tc .vmem S4096x2048 .f32) (h4 : a4.IsWhole)
    (x0 : Vec Ideal S4096x4096 .fp8e4m3) (x1 : Vec Ideal S4096x2048 .f32) (x2 x3 : Vec Ideal S1 .f32) :
    out0_A_4 (F := Ideal) c a0 h0 a1 h1 a2 h2 a3 h3 a4 h4 x0 x1 x2 x3 = k0_pay1 x0 x1 (x2 (ix1 0)) (x3 (ix1 0)) := by
  unfold out0_A_4
  rw [View.read_writes_junk_eq_canon]
  show View.canon ([⟨Rect.unit ![0, 0] S4096x2048.size inb_S4096x2048_S4096x2048_0_0,
      k0_pay1
        (View.readAt (Elt Ideal) a0.view (Rect.unit ![0, 0] S4096x4096.size inb_S4096x4096_S4096x4096_0_0).toLoadRect (h0.unread x0))
        (View.readAt (Elt Ideal) a1.view (Rect.unit ![0, 0] S4096x2048.size inb_S4096x2048_S4096x2048_0_0).toLoadRect (h1.unread x1))
        (View.readAt (Elt Ideal) a2.view (Rect.unit (s := S1) ![0] S1.size inb_S1_S1_0).toLoadRect (h2.unread x2) _)
        (View.readAt (Elt Ideal) a3.view (Rect.unit (s := S1) ![0] S1.size inb_S1_S1_0).toLoadRect (h3.unread x3) _)⟩] :
      List (View.Piece (Elt Ideal) S4096x2048 .f32)) = _
  rw [View.canon_unit_zero (S := S4096x2048) zero2]
  simp only [View.readAt_eq_ld, h0.read_unread, h1.read_unread, h2.read_unread, h3.read_unread]
  rw [View.ld_unit_zero (S := S4096x4096) zero2, View.ld_unit_zero (S := S4096x2048) zero2]
  exact congrArg₂ (k0_pay1 x0 x1) (congrArg x2 (funext fun a => by match a with | ⟨0, _⟩ => rfl))
    (congrArg x3 (funext fun a => by match a with | ⟨0, _⟩ => rfl))

variable (m : (ℓ : Loc nD τ sig) → Buf (Elt Ideal) ℓ)

/-- The result after the run. -/
def final (c : Dev nD) : Buf (Elt Ideal) ((c.tc : Thread nD τ).loc main_v0) := (dats (F := Ideal) m 0 c).arrAt (4 : Fin 5) cfg0.N

theorem final_eq (c : Dev nD) : final m c = k0_pay1 (F := Ideal) (m ((c.tc : Thread nD τ).loc main_arg0)) (m ((c.tc : Thread nD τ).loc main_arg1))
    (m ((c.tc : Thread nD τ).loc main_arg2) (ix1 0)) (m ((c.tc : Thread nD τ).loc main_arg3) (ix1 0)) := by
  have h := Value.blocks4 (F := Ideal) m c t0_0 (flush0_4 t0_0)
  rw [Value.flushed4_A, out_eq] at h
  have e0 : iblk (F := Ideal) m c (0 : Fin 5) t0_0 = m ((c.tc : Thread nD τ).loc main_arg0) :=
    Memref.read_access_unit_zero (Elt Ideal) main_arg0 (off := fun a => (win0_0.index t0_0) a * main_arg0.ty.shape.size a)
      (funext fun a => Nat.zero_mul _) (fun a => by show 0 * main_arg0.ty.shape.size a + main_arg0.ty.shape.size a ≤ main_arg0.ty.shape.size a; omega) _
  have e1 : iblk (F := Ideal) m c (1 : Fin 5) t0_0 = m ((c.tc : Thread nD τ).loc main_arg1) :=
    Memref.read_access_unit_zero (Elt Ideal) main_arg1 (off := fun a => (win0_1.index t0_0) a * main_arg1.ty.shape.size a)
      (funext fun a => Nat.zero_mul _) (fun a => by show 0 * main_arg1.ty.shape.size a + main_arg1.ty.shape.size a ≤ main_arg1.ty.shape.size a; omega) _
  have e2 : iblk (F := Ideal) m c (2 : Fin 5) t0_0 = m ((c.tc : Thread nD τ).loc main_arg2) :=
    Memref.read_access_unit_zero (Elt Ideal) main_arg2 (off := fun a => (win0_2.index t0_0) a * main_arg2.ty.shape.size a)
      (funext fun a => Nat.zero_mul _) (fun a => by show 0 * main_arg2.ty.shape.size a + main_arg2.ty.shape.size a ≤ main_arg2.ty.shape.size a; omega) _
  have e3 : iblk (F := Ideal) m c (3 : Fin 5) t0_0 = m ((c.tc : Thread nD τ).loc main_arg3) :=
    Memref.read_access_unit_zero (Elt Ideal) main_arg3 (off := fun a => (win0_3.index t0_0) a * main_arg3.ty.shape.size a)
      (funext fun a => Nat.zero_mul _) (fun a => by show 0 * main_arg3.ty.shape.size a + main_arg3.ty.shape.size a ≤ main_arg3.ty.shape.size a; omega) _
  rw [e0, e1, e2, e3] at h
  exact (Memref.read_access_unit_zero (Elt Ideal) main_v0 (off := fun a => (win0_4.index t0_0) a * main_v0.ty.shape.size a)
    (funext fun a => Nat.zero_mul _) (fun a => by show 0 * main_v0.ty.shape.size a + main_v0.ty.shape.size a ≤ main_v0.ty.shape.size a; omega) _).symm.trans h

/-- The four arguments, as arrays of numbers. -/
def argX (c : Dev nD) : S4096x4096.Idx → EReal := m ((c.tc : Thread nD τ).loc main_arg0)
def argW (c : Dev nD) : S4096x2048.Idx → EReal := m ((c.tc : Thread nD τ).loc main_arg1)
def argA (c : Dev nD) : S1.Idx → EReal := m ((c.tc : Thread nD τ).loc main_arg2)
def argB (c : Dev nD) : S1.Idx → EReal := m ((c.tc : Thread nD τ).loc main_arg3)

theorem final_apply (c : Dev nD) (i : Fin 4096) (j : Fin 2048) :
    (final m c (ix2 i j) : EReal)
      = (∑ k : Fin 4096, argX m c (ix2 i k) * argW m c (ix2 k j)) * (argA m c (ix1 0) * argB m c (ix1 0)) := by
  rw [final_eq]
  exact pay_apply _ _ _ _ i j

end Cert.Proof.Reference

end
-- ==== Proof.Equation.lean ====
module

public import proofs.«01_k».proof.Proof.Arrays
public import proofs.«01_k».proof.Proof.Products
public import proofs.«01_k».proof.Proof.Reference

@[expose] public section

noncomputable section

namespace Cert.Proof

open Idealize.ShloMosaic Idealize.ShloMosaic.TcCoe Idealize.ShloMosaic.ValueIdx
open scoped BigOperators
open Cert.KernelIdeal Cert.KernelIdeal.Gen

/-! The kernel's result on a device is that device's block of the reference's. -/

/-- A sum over 4096 positions, 256 at a time. -/
theorem sum_blocks (g : Fin 4096 → EReal) :
    ∑ k : Fin 4096, g k = ∑ s : Fin 16, ∑ k : Fin 256, g (rowAt s k) := by
  rw [← Fintype.sum_prod_type' (f := fun (s : Fin 16) (k : Fin 256) => g (rowAt s k))]
  exact (Equiv.sum_comp (finProdFinEquiv (m := 16) (n := 256)) g).symm.trans
    (Finset.sum_congr rfl fun p _ => congrArg g (Fin.ext (Nat.add_comm _ _)))

/-- For every step after the first the slot of weights is that of the device whose block it takes. -/
theorem rsteps_slot : ∀ p ∈ rsteps, po p.1 = p.2.succ := by decide

variable (m : (ℓ : Loc nD τ sig) → Buf (Elt Ideal) ℓ) (ρ : Dev nD → PrngReg)

/-- The kernel's sum at an element: over the sixteen devices, 256 positions of each. -/
theorem sum_apply (c : Dev nD) (i : Fin 256) (j : Fin 2048) :
    (accR m ρ c rsteps (term m ρ c (dn c 0) 0) (ix2 i j) : EReal)
      = ∑ s : Fin 16, ∑ k : Fin 256,
          (xstg m ρ s (ix2 (rowAt (dv c) i) k) : EReal)
            * wmem m ρ c (ix2 (rowAt s k) j) := by
  rw [accR_apply, ← sum_steps c fun s : Fin 16 => ∑ k : Fin 256,
          (xstg m ρ s (ix2 (rowAt (dv c) i) k) : EReal)
            * wmem m ρ c (ix2 (rowAt s k) j)]
  refine congrArg₂ (· + ·) (term_apply m ρ c (dn c 0) 0 i j) (congrArg List.sum (List.map_congr_left fun p hp => ?_))
  rw [term_apply]
  simp only [rsteps_slot p hp]

variable (m' : (ℓ : Loc Cert.ReferenceIdeal.nD Cert.ReferenceIdeal.τ Cert.ReferenceIdeal.sig) → Buf (Elt Ideal) ℓ)

/-- Where an element of a device's block of rows sits in the whole array; -/
theorem rows_idx (h : Layout.Tiles ⟨2, ![256, 2048]⟩ ⟨2, ![4096, 2048]⟩ 0 16) (c : Fin 16) (i : Fin 256) (j : Fin 2048) :
    h.idx c (ix2 i j) = ix2 (rowAt c i) j := by
  funext d
  rcases d with ⟨_ | _ | n, hd⟩
  · exact Fin.ext (show c.val * 256 + i.val = 256 * c.val + i.val by omega)
  · rfl
  · exact absurd hd (by show ¬ n + 2 < 2; omega)
/-- and of its block of columns. -/
theorem cols_idx (h : Layout.Tiles ⟨2, ![4096, 256]⟩ ⟨2, ![4096, 4096]⟩ 1 16) (c : Fin 16) (i : Fin 4096) (k : Fin 256) :
    h.idx c (ix2 i k) = ix2 i (rowAt c k) := by
  funext d
  rcases d with ⟨_ | _ | n, hd⟩
  · rfl
  · exact Fin.ext (show c.val * 256 + k.val = 256 * c.val + k.val by omega)
  · exact absurd hd (by show ¬ n + 2 < 2; omega)

/-- The rows are cut sixteen ways, and so are the columns of `x`. -/
theorem rows_tile : Layout.Tiles ⟨2, ![256, 2048]⟩ ⟨2, ![4096, 2048]⟩ 0 16 := by decide
theorem cols_tile : Layout.Tiles ⟨2, ![4096, 256]⟩ ⟨2, ![4096, 4096]⟩ 1 16 := by decide

section Blocks

variable (r₀ : Dev Cert.ReferenceIdeal.nD)
    (hx : ∀ c : Dev nD, m ((c.tc : Thread nD τ).loc main_arg0) = Layout.block ⟨2, ![4096, 256]⟩ ⟨2, ![4096, 4096]⟩ 1 16 c (Reference.argX m' r₀) cols_tile)
    (hw : ∀ c : Dev nD, m ((c.tc : Thread nD τ).loc main_arg1) = Reference.argW m' r₀)
    (ha : ∀ c : Dev nD, m ((c.tc : Thread nD τ).loc main_arg2) = Reference.argA m' r₀)
    (hb : ∀ c : Dev nD, m ((c.tc : Thread nD τ).loc main_arg3) = Reference.argB m' r₀)
include hx hw ha hb

/-- An element of a device's result is the reference's, in that device's rows. -/
theorem out_apply (c : Dev nD) (i : Fin 256) (j : Fin 2048) :
    (outF m ρ c (ix2 i j) : EReal) = Reference.final m' r₀ (ix2 (rowAt (dv c) i) j) := by
  refine Eq.trans ?_ (Reference.final_apply m' r₀ _ j).symm
  show (accR m ρ c rsteps (term m ρ c (dn c 0) 0) (ix2 i j) : EReal) * ((sx m ρ c : EReal) * sw m ρ c) = _
  rw [sum_apply, sx_eq m ρ c (ix1 0), sw_eq m ρ c (ix1 0), sum_blocks]
  refine congrArg₂ (· * ·) (Finset.sum_congr rfl fun s _ => Finset.sum_congr rfl fun k _ => congrArg₂ (· * ·) ?_ ?_)
    (congrArg₂ (· * ·) (congrFun (ha c) _) (congrFun (hb c) _))
  · rw [xstg_eq]
    exact (congrFun (hx s) _).trans (congrArg (Reference.argX m' r₀) (cols_idx cols_tile s _ k))
  · exact congrFun (hw c) _

/-- When the devices hold their blocks of `x`, and the weights and scales, the kernel's results are the blocks of the reference's. -/
theorem out_block (c : Dev nD) :
    outF m ρ c = Layout.block ⟨2, ![256, 2048]⟩ ⟨2, ![4096, 2048]⟩ 0 16 c (Reference.final m' r₀) rows_tile := by
  funext x
  have h := out_apply m ρ m' r₀ hx hw ha hb c (x 0) (x 1)
  rw [← rows_idx rows_tile (dv c) (x 0) (x 1)] at h
  have e : (ix2 (x 0 : Fin 256) (x 1 : Fin 2048) : S256x2048.Idx) = x := (eq_ix2 (n0 := 256) (n1 := 2048) x).symm
  exact (congrArg (outF m ρ c) e.symm).trans (h.trans (congrArg (fun y => Reference.final m' r₀ (rows_tile.idx (dv c) y)) e))

end Blocks

end Cert.Proof

end
-- ==== Proof.lean ====
/- The certificate: the kernel's frame at its words and over the extended reals, the reference's frame, and the equation of
   their results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Equation
public import Idealize.ShloMosaic.Adequacy
public import Idealize.ShloMosaic.Init
public import Idealize.ShloMosaic.Lib.Tactic

@[expose] public section

noncomputable section

namespace Cert.Proof

open Idealize.ShloMosaic Idealize.SL.Sem

/-- The kernel ends, faults nowhere, keeps its arguments and leaves every counter at zero: said of the text the run is proved of, -/
def FrameBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

theorem frame_bits : FrameBits := fun m ρ _ =>
  (θ_run Cert.KernelIdeal.defs _ _).mono (fun r h => ⟨kept m ρ r h.1, h.2⟩) (run_main (F := Bits) m ρ)

/-- which is the kernel's own text under another name. -/
theorem same_text : FrameBits = Cert.quiescent_Kernel := by sl_kernel_rfl

theorem frame_kernel : Cert.quiescent_Kernel := same_text ▸ frame_bits

theorem frame_kernel_ideal : Cert.quiescent_KernelIdeal := fun m ρ _ =>
  (θ_run Cert.KernelIdeal.defs _ _).mono (fun r h => ⟨kept m ρ r h.1, h.2⟩) (run_main (F := Ideal) m ρ)

set_option maxRecDepth 30000 in
/-- The kernel's results are the devices' blocks of the reference's result. -/
theorem value : Cert.algebraic_KernelIdeal_ReferenceIdeal := fun m g m' g' _ h =>
  ⟨Reference.final m' 0,
    (θ_run Cert.KernelIdeal.defs _ _).mono
      (fun r hr c => ⟨(result m g r hr.1 c).trans (out_block m g m' 0 (fun c => (h c).1) (fun c => (h c).2.1) (fun c => (h c).2.2.1) (fun c => (h c).2.2.2) c),
        kept m g r hr.1 c⟩)
      (run_main (F := Ideal) m g),
    (θ_run Cert.ReferenceIdeal.defs _ _).mono (fun r hr => hr 0) (Cert.ReferenceIdeal.Value.run_blocks (F := Ideal) m' g')⟩

theorem claim : Cert.Claim :=
  ⟨Cert.Kernel.Gen.facts, Cert.KernelIdeal.Gen.facts, Cert.ReferenceIdeal.Gen.facts,
    frame_kernel, frame_kernel_ideal, fun m ρ _ => Cert.ReferenceIdeal.Gen.frame m ρ, trivial, value⟩

end Cert.Proof

end
